-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1024x128 : Shape := ⟨2, ![1024, 128]⟩
abbrev S100000x128 : Shape := ⟨2, ![100000, 128]⟩
abbrev S100000 : Shape := ⟨1, ![100000]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg3 : FVec F S100000 .f32) (main_v12 : IVec S_ 1) (main_v14 : IVec S100000 1) (main_v15 : FVec F S100000 .f32) : IVec S_ 1 :=
  let main_v16 : IVec S100000 1 := cmpf .olt main_arg3 main_v15
  let main_v17 : IVec S100000 1 := andi main_v14 main_v16
  let main_c_6 : IVec S_ 1 := constantI S_ 1 1#1
  let main_v18 : IVec S_ 1 := (fun x v => Host.reduce IntOp.andi x v reducesTo_S100000_S_d0 h_S_) main_v17 main_c_6
  let main_v19 : IVec S_ 1 := andi main_v12 main_v18
  main_v19

def fn {F : FTy → Type} [FloatOps F] (main_arg0 : FVec F S1024x128 .f32) (main_arg1 : FVec F S100000x128 .f32) (main_arg2 : FVec F S100000x128 .f32) (main_arg3 : FVec F S100000 .f32) : IVec S_ 1 :=
  let main_cst : FVec F S_ .f32 := constant S_ .f32 0xFF800000#32
  let main_v0 : FVec F S1024x128 .f32 := broadcastInDim S1024x128 ![] bcast_S_S1024x128 main_cst
  let main_v1 : IVec S1024x128 1 := cmpf .ogt main_arg0 main_v0
  let main_cst_0 : FVec F S_ .f32 := constant S_ .f32 0x7F800000#32
  let main_v2 : FVec F S1024x128 .f32 := broadcastInDim S1024x128 ![] bcast_S_S1024x128 main_cst_0
  let main_v3 : IVec S1024x128 1 := cmpf .olt main_arg0 main_v2
  let main_v4 : IVec S1024x128 1 := andi main_v1 main_v3
  let main_c : IVec S_ 1 := constantI S_ 1 1#1
  let main_v5 : IVec S_ 1 := (fun x v => Host.reduce IntOp.andi x v reducesTo_S1024x128_S_d0_1 h_S_) main_v4 main_c
  let main_cst_1 : FVec F S_ .f32 := constant S_ .f32 0xFF800000#32
  let main_v6 : FVec F S100000x128 .f32 := broadcastInDim S100000x128 ![] bcast_S_S100000x128 main_cst_1
  let main_v7 : IVec S100000x128 1 := cmpf .ogt main_arg2 main_v6
  let main_cst_2 : FVec F S_ .f32 := constant S_ .f32 0x7F800000#32
  let main_v8 : FVec F S100000x128 .f32 := broadcastInDim S100000x128 ![] bcast_S_S100000x128 main_cst_2
  let main_v9 : IVec S100000x128 1 := cmpf .olt main_arg2 main_v8
  let main_v10 : IVec S100000x128 1 := andi main_v7 main_v9
  let main_c_3 : IVec S_ 1 := constantI S_ 1 1#1
  let main_v11 : IVec S_ 1 := (fun x v => Host.reduce IntOp.andi x v reducesTo_S100000x128_S_d0_1 h_S_) main_v10 main_c_3
  let main_v12 : IVec S_ 1 := andi main_v5 main_v11
  let main_cst_4 : FVec F S_ .f32 := constant S_ .f32 0xFF800000#32
  let main_v13 : FVec F S100000 .f32 := broadcastInDim S100000 ![] bcast_S_S100000 main_cst_4
  let main_v14 : IVec S100000 1 := cmpf .ogt main_arg3 main_v13
  let main_cst_5 : FVec F S_ .f32 := constant S_ .f32 0x7F800000#32
  let main_v15 : FVec F S100000 .f32 := broadcastInDim S100000 ![] bcast_S_S100000 main_cst_5
  fn_part1 (F := F) main_arg3 main_v12 main_v14 main_v15
-- ==== Kernel.lean ====
abbrev S1024x128 : Shape := ⟨2, ![1024, 128]⟩
abbrev S100000x128 : Shape := ⟨2, ![100000, 128]⟩
abbrev S100000 : Shape := ⟨1, ![100000]⟩
abbrev S_ : Shape := ⟨0, ![]⟩
abbrev S102400x128 : Shape := ⟨2, ![102400, 128]⟩
abbrev S1x100000 : Shape := ⟨2, ![1, 100000]⟩
abbrev S1x102400 : Shape := ⟨2, ![1, 102400]⟩
abbrev S1024x1 : Shape := ⟨2, ![1024, 1]⟩
abbrev S4096x128 : Shape := ⟨2, ![4096, 128]⟩
abbrev S1x4096 : Shape := ⟨2, ![1, 4096]⟩
abbrev S1024x4096 : Shape := ⟨2, ![1024, 4096]⟩
abbrev S1024 : Shape := ⟨1, ![1024]⟩
abbrev S1024x100000 : Shape := ⟨2, ![1024, 100000]⟩

abbrev nBuf : Space → Nat
  | .hbm => 21
  | .vmem => 21
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S1024x128, .bf16⟩
  | .hbm, ⟨5, _⟩ => ⟨S_, .i32⟩
  | .hbm, ⟨6, _⟩ => ⟨S_, .f32⟩
  | .hbm, ⟨7, _⟩ => ⟨S102400x128, .f32⟩
  | .hbm, ⟨8, _⟩ => ⟨S102400x128, .bf16⟩
  | .hbm, ⟨9, _⟩ => ⟨S_, .i32⟩
  | .hbm, ⟨10, _⟩ => ⟨S_, .f32⟩
  | .hbm, ⟨11, _⟩ => ⟨S102400x128, .f32⟩
  | .hbm, ⟨12, _⟩ => ⟨S102400x128, .bf16⟩
  | .hbm, ⟨13, _⟩ => ⟨S1x100000, .f32⟩
  | .hbm, ⟨14, _⟩ => ⟨S_, .f32⟩
  | .hbm, ⟨15, _⟩ => ⟨S_, .f32⟩
  | .hbm, ⟨16, _⟩ => ⟨S1x102400, .f32⟩
  | .hbm, ⟨17, _⟩ => ⟨S1024x1, .f32⟩
  | .hbm, ⟨18, _⟩ => ⟨S1024x1, .f32⟩
  | .hbm, ⟨19, _⟩ => ⟨S1024x128, .f32⟩
  | .hbm, ⟨20, _⟩ => ⟨S1024x100000, .f32⟩
  | .local _ .vmem, ⟨0, _⟩ => ⟨S1024x128, .bf16⟩
  | .local _ .vmem, ⟨1, _⟩ => ⟨S4096x128, .bf16⟩
  | .local _ .vmem, ⟨2, _⟩ => ⟨S4096x128, .bf16⟩
  | .local _ .vmem, ⟨3, _⟩ => ⟨S1x4096, .f32⟩
  | .local _ .vmem, ⟨4, _⟩ => ⟨S1x4096, .f32⟩
  | .local _ .vmem, ⟨5, _⟩ => ⟨S1024x1, .f32⟩
  | .local _ .vmem, ⟨6, _⟩ => ⟨S1024x1, .f32⟩
  | .local _ .vmem, ⟨7, _⟩ => ⟨S1024x128, .f32⟩
  | .local _ .vmem, ⟨8, _⟩ => ⟨S1024x128, .f32⟩
  | .local _ .vmem, ⟨9, _⟩ => ⟨S1024x128, .bf16⟩
  | .local _ .vmem, ⟨10, _⟩ => ⟨S4096x128, .bf16⟩
  | .local _ .vmem, ⟨11, _⟩ => ⟨S4096x128, .bf16⟩
  | .local _ .vmem, ⟨12, _⟩ => ⟨S1x4096, .f32⟩
  | .local _ .vmem, ⟨13, _⟩ => ⟨S1x4096, .f32⟩
  | .local _ .vmem, ⟨14, _⟩ => ⟨S4096x128, .bf16⟩
  | .local _ .vmem, ⟨15, _⟩ => ⟨S4096x128, .bf16⟩
  | .local _ .vmem, ⟨16, _⟩ => ⟨S1024x1, .f32⟩
  | .local _ .vmem, ⟨17, _⟩ => ⟨S1024x1, .f32⟩
  | .local _ .vmem, ⟨18, _⟩ => ⟨S1024x128, .f32⟩
  | .local _ .vmem, ⟨19, _⟩ => ⟨S1024x4096, .f32⟩
  | .local _ .vmem, ⟨20, _⟩ => ⟨S1024x4096, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_call2_v0 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c24_i32 : BitVec 32 := 24#32
  let v220 : BitVec 1 := Scalar.cmpi .eq arg0 c24_i32
  let v221 : BitVec 32 := Scalar.extui v220
  let c0_i32_17 : BitVec 32 := 0#32
  let v222 : BitVec 1 := Scalar.cmpi .ne v221 c0_i32_17
  v222

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![25], ![false]⟩

def k1_cond1 (i : grid1.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_14 : BitVec 32 := 0#32
  let v25 : BitVec 1 := Scalar.cmpi .ne v24 c0_i32_14
  v25

def k1_cond2 (i : grid1.Coords) : BitVec 1 :=
  let arg0 : BitVec 32 := BitVec.ofNat 32 (i 0).val
  let c0_i32_15 : BitVec 32 := 0#32
  let v26 : BitVec 1 := Scalar.cmpi .sgt arg0 c0_i32_15
  let v27 : BitVec 32 := Scalar.extui v26
  let c0_i32_16 : BitVec 32 := 0#32
  let v28 : BitVec 1 := Scalar.cmpi .ne v27 c0_i32_16
  v28

def k1_cond3 (i : grid1.Coords) : BitVec 1 :=
  let arg0 : BitVec 32 := BitVec.ofNat 32 (i 0).val
  let c24_i32 : BitVec 32 := 24#32
  let v29 : BitVec 1 := Scalar.cmpi .eq arg0 c24_i32
  let v30 : BitVec 32 := Scalar.extui v29
  let c0_i32_17 : BitVec 32 := 0#32
  let v31 : BitVec 1 := Scalar.cmpi .ne v30 c0_i32_17
  v31

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S1024x128 : Shape := ⟨2, ![1024, 128]⟩
abbrev S100000x128 : Shape := ⟨2, ![100000, 128]⟩
abbrev S100000 : Shape := ⟨1, ![100000]⟩
abbrev S128x100000 : Shape := ⟨2, ![128, 100000]⟩
abbrev S1024x100000 : Shape := ⟨2, ![1024, 100000]⟩
abbrev S1x100000 : Shape := ⟨2, ![1, 100000]⟩
abbrev S_ : Shape := ⟨0, ![]⟩
abbrev S1024 : Shape := ⟨1, ![1024]⟩
abbrev S1024x1 : Shape := ⟨2, ![1024, 1]⟩
abbrev S1024x1x100000 : Shape := ⟨3, ![1024, 1, 100000]⟩
abbrev S1024x1x128 : Shape := ⟨3, ![1024, 1, 128]⟩

abbrev nBuf : Space → Nat
  | .hbm => 26
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S128x100000, .f32⟩
  | .hbm, ⟨5, _⟩ => ⟨S1024x100000, .f32⟩
  | .hbm, ⟨6, _⟩ => ⟨S1x100000, .f32⟩
  | .hbm, ⟨7, _⟩ => ⟨S1024x100000, .f32⟩
  | .hbm, ⟨8, _⟩ => ⟨S1024x100000, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024x1, .f32⟩
  | .hbm, ⟨15, _⟩ => ⟨S1024x100000, .f32⟩
  | .hbm, ⟨16, _⟩ => ⟨S1024x100000, .f32⟩
  | .hbm, ⟨17, _⟩ => ⟨S1024x100000, .f32⟩
  | .hbm, ⟨18, _⟩ => ⟨S_, .f32⟩
  | .hbm, ⟨19, _⟩ => ⟨S1024, .f32⟩
  | .hbm, ⟨20, _⟩ => ⟨S1024x1, .f32⟩
  | .hbm, ⟨21, _⟩ => ⟨S1024x100000, .f32⟩
  | .hbm, ⟨22, _⟩ => ⟨S1024x100000, .f32⟩
  | .hbm, ⟨23, _⟩ => ⟨S1024x1x100000, .f32⟩
  | .hbm, ⟨24, _⟩ => ⟨S1024x1x128, .f32⟩
  | .hbm, ⟨25, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Whole.lean ====
/-
  Stores and loads of a whole buffer, read back: the last store of a whole buffer decides what a later load of it reads
  and what the buffer holds at the end, whatever was stored before.
-/
module

public import proofs.«01_k».proof.Proof.Gen.KernelIdeal.Launch
public import Idealize.ShloMosaic.Lib.Pipeline.Value
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Whole

open Idealize.ShloMosaic

variable {Val : EltTy → Type} {S : Shape} {e : EltTy} [∀ e, Nonempty (Val e)]
variable {sig : RefSig} {κ : Kind} {sp : Space}

/-- The zero offsets of a rank-two rectangle, as a constant function. -/
theorem zeros2 : (![0, 0] : Fin 2 → Nat) = fun _ => 0 := by
  funext a; fin_cases a <;> rfl

/-- After a store of a whole buffer, the buffer reads as the stored contents. -/
theorem read_last (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load of a whole buffer through the list of its stores reads the contents of the last one. -/
theorem readCov_last (v : View sig κ sp S e) {off off' : Fin S.rank → Nat} (h : off = fun _ => 0) (h' : off' = fun _ => 0)
    (inb : ∀ a, off a + S.size a ≤ S.size a) (inb' : ∀ a, off' a + S.size a ≤ S.size a) (w : S.Idx → Val e)
    (L : List (View.Piece Val S e)) :
    v.readCov ((⟨Rect.unit off S.size inb, w⟩ : View.Piece Val S e) :: L) (Rect.unit off' S.size inb').toLoadRect = w := by
  subst h; subst h'
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

/-- A load of a whole buffer, all of whose elements are held at the contents `x`, reads `x`. -/
theorem load_unread {m : Memref sig κ sp S e} (h : m.IsWhole) (x : S.Idx → Val e) {off : Fin S.rank → Nat}
    (hz : off = fun _ => 0) (inb : ∀ a, off a + S.size a ≤ S.size a) :
    m.view.readAt Val (Rect.unit off S.size inb).toLoadRect (h.unread x) = x := by
  rw [View.readAt_eq_ld, h.read_unread, View.ld_unit_zero hz]

end Cert.Whole

end
-- ==== Proof.StatsBody.lean ====
/-
  The first kernel's body at one grid point, on any whole staging buffers: what it reads, and what it leaves in its two
  scratch buffers and, at the last point, in its two outputs, as the printed payloads of its stores.
-/
module

public import proofs.«01_k».proof.Proof.Gen.KernelIdeal.Skeleton
public import proofs.«01_k».proof.Proof.Gen.KernelIdeal.Points
public import proofs.«01_k».proof.Proof.Gen.KernelIdeal.Regions
public import proofs.«01_k».proof.Proof.Whole

@[expose] public section

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running maximum, per row and lane, after the body at a grid point, from the one before it. -/
def maxNext (i : grid0.Coords) (x0 : Vec F S1024x128 .bf16) (x1 : Vec F S4096x128 .bf16) (x2 : Vec F S1x4096 .f32)
    (a : Vec F S1024x128 .f32) : FVec F S1024x128 .f32 :=
  k0_pay9 (k0_pay4 x0 x1 x2) (k0_pay7 i x0 x1 x2 a) (k0_pay8 x0 x1 x2)

/-- The running sum, per row and lane, after the body at a grid point, from the maximum and the sum before it. -/
def sumNext (i : grid0.Coords) (x0 : Vec F S1024x128 .bf16) (x1 : Vec F S4096x128 .bf16) (x2 : Vec F S1x4096 .f32)
    (a b : Vec F S1024x128 .f32) : FVec F S1024x128 .f32 :=
  k0_pay14 (k0_pay4 x0 x1 x2) (k0_pay5 i a) (k0_pay6 i b) (maxNext i x0 x1 x2 a)
    (k0_pay12 (k0_pay4 x0 x1 x2) (maxNext i x0 x1 x2 a)
      (k0_pay10 (k0_pay4 x0 x1 x2) (k0_pay7 i x0 x1 x2 a) (k0_pay8 x0 x1 x2)) (k0_pay11 (k0_pay4 x0 x1 x2)))
    (k0_pay13 (k0_pay4 x0 x1 x2))

set_option maxHeartbeats 1000000 in
/-- The body at a grid point: the three inputs' buffers stay as they were, the two scratch buffers become the next
    running maximum and sum, and the two outputs' are stored at the last point only. -/
theorem body (c : Dev nD) (i : grid0.Coords) (arg1 : Memref sig .tc .vmem S1024x128 .bf16) (harg1 : arg1.IsWhole) (arg2 : Memref sig .tc .vmem S4096x128 .bf16) (harg2 : arg2.IsWhole) (arg3 : Memref sig .tc .vmem S1x4096 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x128 .f32) (harg6 : arg6.IsWhole) (arg7 : Memref sig .tc .vmem S1024x128 .f32) (harg7 : arg7.IsWhole)
    (x0 : Vec F S1024x128 .bf16) (x1 : Vec F S4096x128 .bf16) (x2 : Vec F S1x4096 .f32) (x3 x4 : Vec F S1024x1 .f32) (a b : Vec F S1024x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare a ∗ owns (c : Thread nD τ) arg7 fullShare b
        ∗ (iprop(owns (c : Thread nD τ) arg1 fullShare x0 ∗ owns (c : Thread nD τ) arg2 fullShare x1 ∗ owns (c : Thread nD τ) arg3 fullShare x2
            ∗ owns (c : Thread nD τ) arg4 fullShare (if k0_cond1 i = 1#1 then k0_pay2 (maxNext i x0 x1 x2 a) else x3)
            ∗ owns (c : Thread nD τ) arg5 fullShare (if k0_cond1 i = 1#1 then k0_pay3 (maxNext i x0 x1 x2 a) (sumNext i x0 x1 x2 a b) else x4)
            ∗ owns (c : Thread nD τ) arg6 fullShare (k0_pay15 (maxNext i x0 x1 x2 a))
            ∗ owns (c : Thread nD τ) arg7 fullShare (k0_pay1 (sumNext i x0 x1 x2 a b))) -∗ K ⟨⟩))
      ⊢ wp frame (wpE (defs₀ (F := F)) Variants.none c none) E (cc0__stats_kern i arg1 harg1 arg2 harg2 arg3 harg3 arg4 harg4 arg5 harg5 arg6 harg6 arg7 harg7) K := by
  simp only [cc0__stats_kern_eq_skeleton]; unfold cc0__stats_kern_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  by_cases hc : k0_cond1 i = 1#1
  all_goals
    simp only [k0_part1_eq_skeleton, k0_part2_eq_skeleton, k0_part3_eq_skeleton, k0_part4_eq_skeleton]
    sl_exec (disch := sl_exact hc)
    sl_step
    iapply Hk
    isplitl [H0]
    · iexists _; isplitr
      · ipureintro; exact hf0
      · iexact H0
    isplitl [H1]
    · iexists _; isplitr
      · ipureintro; exact hf1
      · iexact H1
    isplitl [H2]
    · iexists _; isplitr
      · ipureintro; exact hf2
      · iexact H2
    isplitl [H3]
    · iexists _; isplitr
      swap; · iexact H3
      ipureintro
      first
        | exact (hf3.trans (if_neg hc).symm)
        | refine Eq.trans ?_ (if_pos hc).symm
          refine (Whole.read_last (S := S1024x1) _ _ Whole.zeros2 _ _ _).trans ?_
          sl_unfold_run_names
          rw [Whole.load_unread harg1 _ Whole.zeros2, Whole.load_unread harg2 _ Whole.zeros2, Whole.load_unread harg3 _ Whole.zeros2, Whole.load_unread harg6 _ Whole.zeros2]
          rfl
    isplitl [H4]
    · iexists _; isplitr
      swap; · iexact H4
      ipureintro
      first
        | exact (hf4.trans (if_neg hc).symm)
        | refine Eq.trans ?_ (if_pos hc).symm
          refine (Whole.read_last (S := S1024x1) _ _ Whole.zeros2 _ _ _).trans ?_
          sl_unfold_run_names
          rw [Whole.load_unread harg1 _ Whole.zeros2, Whole.load_unread harg2 _ Whole.zeros2, Whole.load_unread harg3 _ Whole.zeros2, Whole.load_unread harg6 _ Whole.zeros2, Whole.load_unread harg7 _ Whole.zeros2]
          rfl
    isplitl [H5]
    · iexists _; isplitr
      swap; · iexact H5
      ipureintro
      refine (Whole.read_last (S := S1024x128) _ _ Whole.zeros2 _ _ _).trans ?_
      sl_unfold_run_names
      rw [Whole.load_unread harg1 _ Whole.zeros2, Whole.load_unread harg2 _ Whole.zeros2, Whole.load_unread harg3 _ Whole.zeros2, Whole.load_unread harg6 _ Whole.zeros2]
      rfl
    · iexists _; isplitr
      swap; · iexact H6
      ipureintro
      refine (Whole.read_last (S := S1024x128) _ _ Whole.zeros2 _ _ _).trans ?_
      sl_unfold_run_names
      rw [Whole.load_unread harg1 _ Whole.zeros2, Whole.load_unread harg2 _ Whole.zeros2, Whole.load_unread harg3 _ Whole.zeros2, Whole.load_unread harg6 _ Whole.zeros2, Whole.load_unread harg7 _ Whole.zeros2]
      rfl

end Cert.KernelIdeal.Stats

end
-- ==== Proof.Stats.lean ====
/-
  The first kernel's pipeline: what its windows' buffers and its two scratch buffers hold at every grid point, from any
  contents of the arrays at entry, and the body's obligation at a generic point.
-/
module

public import proofs.«01_k».proof.Proof.StatsBody

@[expose] public section

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The outputs are stored at the last point. -/
theorem cond1_iff (t : Fin cfg0.N) : k0_cond1 (grid0.coords t) = 1#1 ↔ t.val = 24 :=
  (by decide +kernel : ∀ t : Fin grid0.N, k0_cond1 (grid0.coords t) = 1#1 ↔ t.val = 24) t

/-- They are idle at every other point, and live at the last. -/
theorem idle_3 (t : Fin cfg0.N) : cfg0.idle 3 (cfg0.grid.coords t) = !decide (t.val = 24) :=
  (by decide +kernel : ∀ t : Fin grid0.N, idle0 3 (grid0.coords t) = !decide (t.val = 24)) t
theorem idle_4 (t : Fin cfg0.N) : cfg0.idle 4 (cfg0.grid.coords t) = !decide (t.val = 24) :=
  (by decide +kernel : ∀ t : Fin grid0.N, idle0 4 (grid0.coords t) = !decide (t.val = 24)) t
theorem flush_3 (t : Fin cfg0.N) (h : t.val ≠ 24) : (cfg0.win 3).flush t = false := by
  have hN : t.val < 25 := lt_of_lt_of_eq t.isLt N_0
  exact Bool.eq_false_iff.mpr fun h' => by have := (flush0_3 t).mp h'; omega
theorem flush_4 (t : Fin cfg0.N) (h : t.val ≠ 24) : (cfg0.win 4).flush t = false := by
  have hN : t.val < 25 := lt_of_lt_of_eq t.isLt N_0
  exact Bool.eq_false_iff.mpr fun h' => by have := (flush0_4 t).mp h'; omega

/-- At the first point the running maximum starts from the constant, whatever the scratch buffer held. -/
theorem pay5_first (i : grid0.Coords) (h : (i 0).val = 0) (a a' : Vec F S1024x128 .f32) : k0_pay5 i a = k0_pay5 i a' := by
  unfold k0_pay5; rw [h]; rfl
/-- And the running sum from zero. -/
theorem pay6_first (i : grid0.Coords) (h : (i 0).val = 0) (b b' : Vec F S1024x128 .f32) : k0_pay6 i b = k0_pay6 i b' := by
  unfold k0_pay6; rw [h]; rfl
theorem maxNext_first (i : grid0.Coords) (h : (i 0).val = 0) (x0 : Vec F S1024x128 .bf16) (x1 : Vec F S4096x128 .bf16) (x2 : Vec F S1x4096 .f32)
    (a a' : Vec F S1024x128 .f32) : maxNext i x0 x1 x2 a = maxNext i x0 x1 x2 a' := by
  unfold maxNext k0_pay7; rw [pay5_first i h a a']
theorem sumNext_first (i : grid0.Coords) (h : (i 0).val = 0) (x0 : Vec F S1024x128 .bf16) (x1 : Vec F S4096x128 .bf16) (x2 : Vec F S1x4096 .f32)
    (a a' b b' : Vec F S1024x128 .f32) : sumNext i x0 x1 x2 a b = sumNext i x0 x1 x2 a' b' := by
  unfold sumNext k0_pay7; rw [maxNext_first i h x0 x1 x2 a a', pay5_first i h a a', pay6_first i h b b']

/-- The two stores into the scratch buffers keep the values. -/
theorem pay15_eq (x : FVec F S1024x128 .f32) : k0_pay15 x = x := shapeCast_self x _
theorem pay1_eq (x : FVec F S1024x128 .f32) : k0_pay1 x = x := shapeCast_self x _

variable (V : Dev nD → Valuation τ sig (Elt F))

/-- Window `w`'s block of its array at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Any contents, for what the scratch buffers hold before the first point. -/
def junk : Vec F S1024x128 .f32 := constant S1024x128 .f32 0x00000000#32

/-- The running maximum and the running sum after point `n`. -/
def stAt (c : Dev nD) : (n : ℕ) → n < cfg0.N → Vec F S1024x128 .f32 × Vec F S1024x128 .f32
  | 0, h => (maxNext (grid0.coords ⟨0, h⟩) (iblk V c 0 ⟨0, h⟩) (iblk V c 1 ⟨0, h⟩) (iblk V c 2 ⟨0, h⟩) junk,
      sumNext (grid0.coords ⟨0, h⟩) (iblk V c 0 ⟨0, h⟩) (iblk V c 1 ⟨0, h⟩) (iblk V c 2 ⟨0, h⟩) junk junk)
  | n + 1, h => (maxNext (grid0.coords ⟨n + 1, h⟩) (iblk V c 0 ⟨n + 1, h⟩) (iblk V c 1 ⟨n + 1, h⟩) (iblk V c 2 ⟨n + 1, h⟩) (stAt c n (Nat.lt_of_succ_lt h)).1,
      sumNext (grid0.coords ⟨n + 1, h⟩) (iblk V c 0 ⟨n + 1, h⟩) (iblk V c 1 ⟨n + 1, h⟩) (iblk V c 2 ⟨n + 1, h⟩) (stAt c n (Nat.lt_of_succ_lt h)).1 (stAt c n (Nat.lt_of_succ_lt h)).2)

/-- Contents `a`, `b` of the two scratch buffers are those before point `n`: anything before the first. -/
def IsState (c : Dev nD) (n : ℕ) (a b : Vec F S1024x128 .f32) : Prop :=
  ∀ (m : ℕ) (hm : m < cfg0.N), n = m + 1 → a = (stAt V c m hm).1 ∧ b = (stAt V c m hm).2

/-- A grid point's one coordinate is its number. -/
theorem coord_val (t : Fin cfg0.N) : (grid0.coords t 0).val = t.val :=
  (by decide +kernel : ∀ t : Fin grid0.N, (grid0.coords t 0).val = t.val) t
theorem coord_zero (h : 0 < cfg0.N) : ((grid0.coords ⟨0, h⟩) 0).val = 0 := coord_val ⟨0, h⟩

/-- The body takes the contents before a point to those after it. -/
theorem step (c : Dev nD) (t : Fin cfg0.N) (a b : Vec F S1024x128 .f32) (h : IsState V c t.val a b) :
    maxNext (grid0.coords t) (iblk V c 0 t) (iblk V c 1 t) (iblk V c 2 t) a = (stAt V c t.val t.isLt).1
      ∧ sumNext (grid0.coords t) (iblk V c 0 t) (iblk V c 1 t) (iblk V c 2 t) a b = (stAt V c t.val t.isLt).2 := by
  obtain ⟨n, hn⟩ := t
  cases n with
  | zero => exact ⟨maxNext_first _ (coord_zero hn) _ _ _ _ _, sumNext_first _ (coord_zero hn) _ _ _ _ _ _ _⟩
  | succ n =>
    obtain ⟨rfl, rfl⟩ := h n (Nat.lt_of_succ_lt hn) rfl
    exact ⟨rfl, rfl⟩

/-- The pipeline's invariant before point `n`: the two scratch buffers at the running maximum and sum, the other scoped
    buffers at anything, the generator register at anything. -/
def inv (c : Dev nD) (n : ℕ) : sProp 𝕄 :=
  iprop((∃ a b, ⌜IsState V c n a b⌝ ∗ owns (c : Thread nD τ) (Memref.whole cc0_scratch0) fullShare a ∗ owns (c : Thread nD τ) (Memref.whole cc0_scratch1) fullShare b)
    ∗ Pipeline.scopedRestBut (Ix := Unit) (Name := ℕ) (U := UR sig nD τ) (Lvl := ℕ) (Val := Elt F) spec0 c [cc0_scratch0, cc0_scratch1] ∗ ∃ r, prngReg c r)

/-- The pipeline's proof data: the arrays as at entry; the inputs' buffers at their blocks, the outputs' at the row
    maximum and the inverse of the row sum; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay2 (stAt V c t.val t.isLt).1
    | ⟨4, _⟩ => k0_pay3 (stAt V c t.val t.isLt).1 (stAt V c t.val t.isLt).2
  Φ t := inv V c t.val
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = k0_pay2 (stAt V c t.val t.isLt).1 := by dsimp only [dat]
theorem after_4 (c : Dev nD) (t : Fin cfg0.N) : (dat V c).after 4 t = k0_pay3 (stAt V c t.val t.isLt).1 (stAt V c t.val t.isLt).2 := by dsimp only [dat]

/-- An input's buffer holds its block when the body runs, fetched there or not. -/
theorem before_in (c : Dev nD) (w : Fin cfg0.W) (hw : (cfg0.win w).isOut = false) (hlive : ∀ i, cfg0.idle w i = false)
    (hclip : ∀ t : Fin cfg0.N, ∀ a, (cfg0.win w).clip (cfg0.grid.coords t) a = none)
    (hkeep : ∀ t, (cfg0.win w).cut (cfg0.grid.coords t) ((dat V c).after w t) = (dat V c).blockOf w t)
    (t : Fin cfg0.N) (d) : (dat V c).before w t d = (dat V c).fetched w t d :=
  (dat V c).before_in_eq_fetched w hw hlive (fun t t' _ => funext fun a => (hclip t a).trans (hclip t' a).symm) hkeep t d

theorem before_0 (c : Dev nD) (t : Fin cfg0.N) (d) : (dat V c).before 0 t d = iblk V c 0 t :=
  (before_in V c 0 rfl (fun _ => rfl) (fun _ _ => rfl) (fun t => by rw [after_0]; unfold Dat.blockOf iblk; rw [A_eq]) t d).trans (by unfold Dat.fetched Dat.blockOf iblk; rw [A_eq]; rfl)
theorem before_1 (c : Dev nD) (t : Fin cfg0.N) (d) : (dat V c).before 1 t d = iblk V c 1 t :=
  (before_in V c 1 rfl (fun _ => rfl) (fun _ _ => rfl) (fun t => by rw [after_1]; unfold Dat.blockOf iblk; rw [A_eq]) t d).trans (by unfold Dat.fetched Dat.blockOf iblk; rw [A_eq]; rfl)
theorem before_2 (c : Dev nD) (t : Fin cfg0.N) (d) : (dat V c).before 2 t d = iblk V c 2 t :=
  (before_in V c 2 rfl (fun _ => rfl) (fun _ _ => rfl) (fun t => by rw [after_2]; unfold Dat.blockOf iblk; rw [A_eq]) t d).trans (by unfold Dat.fetched Dat.blockOf iblk; rw [A_eq]; rfl)

/-- A window stored into at a point is left at `after` there. -/
theorem leaves_live (c : Dev nD) (w : Fin cfg0.W) (t : Fin cfg0.N) (h : cfg0.idle w (cfg0.grid.coords t) = false) :
    (dat V c).leavesExact w t = owns (c : Thread nD τ) ((cfg0.win w).stage (cfg0.slots t w)) fullShare ((dat V c).after w t) := by
  unfold Dat.leavesExact; rw [h]

/-- What the body leaves in the first output's buffer is what the pipeline asks there, at the last point and before. -/
theorem leaves_3 (c : Dev nD) (t : Fin cfg0.N) (d) :
    owns (c : Thread nD τ) (st0_3 t) fullShare (if k0_cond1 (grid0.coords t) = 1#1 then k0_pay2 (stAt V c t.val t.isLt).1 else (dat V c).before 3 t d)
      ⊢ (dat V c).leavesExact 3 t := by
  by_cases h : t.val = 24
  · rw [if_pos ((cond1_iff t).mpr h), leaves_live V c 3 t (by rw [idle_3]; simp [h]), after_3]
  · rw [if_neg (fun h' => h ((cond1_iff t).mp h')), (dat V c).leavesExact_idle 3 t (by rw [idle_3]; simp [h]) (flush_3 t h)]
    iintro H; iexists d; iexact H

/-- And in the second output's. -/
theorem leaves_4 (c : Dev nD) (t : Fin cfg0.N) (d) :
    owns (c : Thread nD τ) (st0_4 t) fullShare (if k0_cond1 (grid0.coords t) = 1#1 then k0_pay3 (stAt V c t.val t.isLt).1 (stAt V c t.val t.isLt).2 else (dat V c).before 4 t d)
      ⊢ (dat V c).leavesExact 4 t := by
  by_cases h : t.val = 24
  · rw [if_pos ((cond1_iff t).mpr h), leaves_live V c 4 t (by rw [idle_4]; simp [h]), after_4]
  · rw [if_neg (fun h' => h ((cond1_iff t).mp h')), (dat V c).leavesExact_idle 4 t (by rw [idle_4]; simp [h]) (flush_4 t h)]
    iintro H; iexists d; iexact H

/-- What the body starts from at point `t`. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d)) ∗ (∃ d, owns (c : Thread nD τ) (st0_1 t) fullShare ((dat V c).before 1 t d))
    ∗ (∃ d, owns (c : Thread nD τ) (st0_2 t) fullShare ((dat V c).before 2 t d)) ∗ (∃ d, owns (c : Thread nD τ) (st0_3 t) fullShare ((dat V c).before 3 t d))
    ∗ (∃ d, owns (c : Thread nD τ) (st0_4 t) fullShare ((dat V c).before 4 t d)))

/-- What it leaves. -/
def bodyPost (c : Dev nD) (t : Fin cfg0.N) : sProp 𝕄 :=
  iprop((dat V c).Φ t.succ ∗ (dat V c).owesAt () t.succ ∗ (dat V c).leavesExact 0 t ∗ (dat V c).leavesExact 1 t ∗ (dat V c).leavesExact 2 t
    ∗ (dat V c).leavesExact 3 t ∗ (dat V c).leavesExact 4 t)

/-- The body's triple at a generic point. -/
theorem sound_body (c : Dev nD) (t : Fin cfg0.N) :
    bodyPre V c t ⊢ wp frame (wpE (defs₀ (F := F)) Variants.none c none) Set.univ (bodyAt0 t) fun _ => bodyPost V c t := by
  unfold bodyPre bodyPost bodyAt0
  rw [leaves_live V c 0 t rfl, leaves_live V c 1 t rfl, leaves_live V c 2 t rfl, after_0, after_1, after_2,
    show (dat V c).Φ t.castSucc = inv V c t.val from rfl, show (dat V c).Φ t.succ = inv V c (t.val + 1) from rfl,
    show (dat V c).owesAt () t.succ = (dat V c).owesAt () t.castSucc from rfl]
  simp only [before_0, before_1, before_2]
  unfold inv
  iintro ⟨⟨⟨%a, %b, %hab, Ha, Hb⟩, Hr⟩, Ho, ⟨%d0, H0⟩, ⟨%d1, H1⟩, ⟨%d2, H2⟩, ⟨%d3, H3⟩, ⟨%d4, H4⟩⟩
  obtain ⟨ha, hb⟩ := step V c t a b hab
  iapply (body c (grid0.coords t) _ _ _ _ _ _ _ _ _ _ _ _ _ _ (iblk V c 0 t) (iblk V c 1 t) (iblk V c 2 t) ((dat V c).before 3 t d3) ((dat V c).before 4 t d4) a b Set.univ _)
  isplitl [H0]; · iexact H0
  isplitl [H1]; · iexact H1
  isplitl [H2]; · iexact H2
  isplitl [H3]; · iexact H3
  isplitl [H4]; · iexact H4
  isplitl [Ha]; · iexact Ha
  isplitl [Hb]; · iexact Hb
  rw [ha, hb, pay15_eq, pay1_eq]
  iintro ⟨H0, H1, H2, H3, H4, Ha, Hb⟩
  isplitl [Ha Hb Hr]
  · isplitl [Ha Hb]
    · iexists _; iexists _
      isplitr
      swap
      · isplitl [Ha]; · iexact Ha
        iexact Hb
      ipureintro
      intro m hm e
      obtain rfl : t.val = m := Nat.succ.inj e
      exact ⟨rfl, rfl⟩
    · iexact Hr
  isplitl [Ho]; · iexact Ho
  isplitl [H0]; · iexact H0
  isplitl [H1]; · iexact H1
  isplitl [H2]; · iexact H2
  isplitl [H3]
  · iapply (leaves_3 V c t d3); iexact H3
  iapply (leaves_4 V c t d4); iexact H4

/-- The body table's row at point `t` is the body there. -/
theorem row (t : Fin cfg0.N) : defs₀ (F := F) .tc cfg0.body (cfg0.bodyArgs t (cfg0.slots t)) = bodyAt0 t := by
  unfold defs₀; rw [Defs.onTc_tc]

/-- The body's obligation. -/
theorem obligation (c : Dev nD) : BodyObligation (dat V c) (defs₀ (F := F)) Variants.none () Set.univ := fun t => by
  rw [bigSep_W0, bigSep_W0, row]
  exact triple_restated (sound_body V c t) rfl .rfl fun _ => .rfl

/-- The scoped buffers beside the windows' are the two scratch buffers and the rest. -/
theorem rest_split (c : Dev nD) :
    (Pipeline.scopedRest (Ix := Unit) (Name := ℕ) (U := UR sig nD τ) (Lvl := ℕ) (Val := Elt F) spec0 c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

/-- The scoped buffers beside the windows' at entry are the invariant's before the first point. -/
theorem inv_first (c : Dev nD) :
    iprop(Pipeline.scopedRest (Ix := Unit) (Name := ℕ) (U := UR sig nD τ) (Lvl := ℕ) (Val := Elt F) spec0 c ∗ ∃ r, prngReg c r) ⊢ inv V c 0 := by
  rw [rest_split]
  unfold inv
  simp only [owns_whole_eq]
  iintro ⟨⟨⟨⟨%f, Hf⟩, ⟨%g, Hg⟩⟩, Hr⟩, Hp⟩
  isplitl [Hf Hg]
  · iexists f; iexists g
    isplitr
    · ipureintro; intro m hm e; exact absurd e.symm (Nat.succ_ne_zero m)
    isplitl [Hf]
    · iexists f; isplitr; · ipureintro; rfl
      iexact Hf
    · iexists g; isplitr; · ipureintro; rfl
      iexact Hg
  isplitl [Hr]; · iexact Hr
  iexact Hp

/-- And after the last point they are given back. -/
theorem inv_last (c : Dev nD) (n : ℕ) :
    inv V c n ⊢ iprop(Pipeline.scopedRest (Ix := Unit) (Name := ℕ) (U := UR sig nD τ) (Lvl := ℕ) (Val := Elt F) spec0 c ∗ ∃ r, prngReg c r) := by
  rw [rest_split]
  unfold inv
  simp only [owns_whole_eq]
  iintro ⟨⟨%a, %b, %hab, ⟨%f, %hf, Hf⟩, ⟨%g, %hg, Hg⟩⟩, Hr, Hp⟩
  isplitl [Hf Hg Hr]
  · isplitl [Hf Hg]
    · isplitl [Hf]
      · iexists f; iexact Hf
      · iexists g; iexact Hg
    · iexact Hr
  iexact Hp

end Cert.KernelIdeal.Stats

end
-- ==== Proof.AttnBody.lean ====
/-
  The second kernel's body at one grid point, on any whole staging buffers: what it reads, and what it leaves in its
  two outputs, as the printed payloads of its stores.
-/
module

public import proofs.«01_k».proof.Proof.Gen.KernelIdeal.Skeleton
public import proofs.«01_k».proof.Proof.Gen.KernelIdeal.Points
public import proofs.«01_k».proof.Proof.Gen.KernelIdeal.Regions
public import proofs.«01_k».proof.Proof.Whole

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first output's buffer holds after the body at a grid point, given what it held before: the tile's
    contribution alone at the first point, added to what was there at the later ones, and at the last point the sum
    scaled by the rows' reciprocal sums. -/
def retNext (i : grid1.Coords) (x0 : Vec F S1024x128 .bf16) (x1 : Vec F S4096x128 .bf16) (x2 : Vec F S1x4096 .f32)
    (x3 : Vec F S4096x128 .bf16) (x4 x5 : Vec F S1024x1 .f32) (x6 : Vec F S1024x128 .f32) : Vec F S1024x128 .f32 :=
  if k1_cond1 i = 1#1 then k1_pay3 x0 x1 x2 x4 x3
  else if k1_cond3 i = 1#1 then k1_pay5 (k1_pay4 x0 x1 x2 x4 x3 x6) x5 else k1_pay4 x0 x1 x2 x4 x3 x6

set_option maxHeartbeats 1000000 in
/-- The body at a grid point, in each of the three ways its conditions can fall out along the grid: the six inputs'
    buffers stay as they were, the first output's becomes `retNext`, the second one's the tile of weights. -/
theorem body (c : Dev nD) (i : grid1.Coords) (arg1 : Memref sig .tc .vmem S1024x128 .bf16) (harg1 : arg1.IsWhole) (arg2 : Memref sig .tc .vmem S4096x128 .bf16) (harg2 : arg2.IsWhole) (arg3 : Memref sig .tc .vmem S1x4096 .f32) (harg3 : arg3.IsWhole) (arg4 : Memref sig .tc .vmem S4096x128 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x4096 .f32) (harg8 : arg8.IsWhole)
    (hc : (k1_cond1 i = 1#1 ∧ ¬k1_cond2 i = 1#1 ∧ ¬k1_cond3 i = 1#1) ∨ (¬k1_cond1 i = 1#1 ∧ k1_cond2 i = 1#1 ∧ ¬k1_cond3 i = 1#1)
      ∨ (¬k1_cond1 i = 1#1 ∧ k1_cond2 i = 1#1 ∧ k1_cond3 i = 1#1))
    (x0 : Vec F S1024x128 .bf16) (x1 : Vec F S4096x128 .bf16) (x2 : Vec F S1x4096 .f32) (x3 : Vec F S4096x128 .bf16) (x4 : Vec F S1024x1 .f32) (x5 : Vec F S1024x1 .f32) (x6 : Vec F S1024x128 .f32) (x7 : Vec F S1024x4096 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (retNext i x0 x1 x2 x3 x4 x5 x6) ∗ owns (c : Thread nD τ) arg8 fullShare (k1_pay2 x0 x1 x2 x4 x5)) -∗ K ⟨⟩))
      ⊢ wp frame (wpE (defs₀ (F := F)) Variants.none c none) E (cc1__attn_kern i arg1 harg1 arg2 harg2 arg3 harg3 arg4 harg4 arg5 harg5 arg6 harg6 arg7 harg7 arg8 harg8) K := by
  simp only [cc1__attn_kern_eq_skeleton]; unfold cc1__attn_kern_skel retNext
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  rcases hc with ⟨hc0, hc1, hc2⟩ | ⟨hc0, hc1, hc2⟩ | ⟨hc0, hc1, hc2⟩
  all_goals
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr
      swap; · iexact H6
      ipureintro
      refine (Whole.read_last _ _ Whole.zeros2 _ _ _).trans ?_
      sl_unfold_run_names
      first
        | rw [if_pos hc0]
        | rw [if_neg hc0, if_neg hc2]
        | rw [if_neg hc0, if_pos hc2, Whole.readCov_last _ Whole.zeros2 Whole.zeros2, Whole.load_unread harg6 _ Whole.zeros2]
      rw [Whole.load_unread harg1 _ Whole.zeros2, Whole.load_unread harg2 _ Whole.zeros2, Whole.load_unread harg3 _ Whole.zeros2,
        Whole.load_unread harg4 _ Whole.zeros2, Whole.load_unread harg5 _ Whole.zeros2]
      try rw [Whole.load_unread harg7 _ Whole.zeros2]
    iexists _; isplitr
    swap; · iexact H7
    ipureintro
    refine (Whole.read_last _ _ Whole.zeros2 _ _ _).trans ?_
    rw [Whole.load_unread harg1 _ Whole.zeros2, Whole.load_unread harg2 _ Whole.zeros2, Whole.load_unread harg3 _ Whole.zeros2,
      Whole.load_unread harg5 _ Whole.zeros2, Whole.load_unread harg6 _ Whole.zeros2]

end Cert.KernelIdeal.Attn

end
-- ==== Proof.Attn.lean ====
/-
  The second kernel's pipeline: what its windows' buffers hold at every grid point, from any contents of the arrays at
  entry, and the body's obligation at a generic point.
-/
module

public import proofs.«01_k».proof.Proof.AttnBody

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first condition holds at the first point. -/
theorem cond1_iff (t : Fin cfg1.N) : k1_cond1 (grid1.coords t) = 1#1 ↔ t.val = 0 :=
  (by decide +kernel : ∀ t : Fin grid1.N, k1_cond1 (grid1.coords t) = 1#1 ↔ t.val = 0) t
/-- The second one at every later point. -/
theorem cond2_iff (t : Fin cfg1.N) : k1_cond2 (grid1.coords t) = 1#1 ↔ 1 ≤ t.val :=
  (by decide +kernel : ∀ t : Fin grid1.N, k1_cond2 (grid1.coords t) = 1#1 ↔ 1 ≤ t.val) t
/-- The third one at the last point. -/
theorem cond3_iff (t : Fin cfg1.N) : k1_cond3 (grid1.coords t) = 1#1 ↔ t.val = 24 :=
  (by decide +kernel : ∀ t : Fin grid1.N, k1_cond3 (grid1.coords t) = 1#1 ↔ t.val = 24) t

/-- The conditions fall out in one of three ways. -/
theorem conds (t : Fin cfg1.N) :
    (k1_cond1 (grid1.coords t) = 1#1 ∧ ¬k1_cond2 (grid1.coords t) = 1#1 ∧ ¬k1_cond3 (grid1.coords t) = 1#1)
      ∨ (¬k1_cond1 (grid1.coords t) = 1#1 ∧ k1_cond2 (grid1.coords t) = 1#1 ∧ ¬k1_cond3 (grid1.coords t) = 1#1)
      ∨ (¬k1_cond1 (grid1.coords t) = 1#1 ∧ k1_cond2 (grid1.coords t) = 1#1 ∧ k1_cond3 (grid1.coords t) = 1#1) := by
  rw [cond1_iff, cond2_iff, cond3_iff]; omega

/-- The first output's buffer is stored into at every point. -/
theorem live6 (t : Fin cfg1.N) : cfg1.idle 6 (grid1.coords t) = false :=
  (by decide +kernel : ∀ t : Fin grid1.N, idle1 6 (grid1.coords t) = false) t

/-- Before its first point the first output's buffer is fresh, afterwards not. -/
def freshTab : ℕ → Bool
  | 0 => true
  | n + 1 => (0x1000000 : ℕ).testBit n
theorem freshTab_step : ∀ t : Fin cfg1.N, freshTab (t.val + 1) = ((cfg1.win 6).flush t || (cfg1.idle 6 (cfg1.grid.coords t) && freshTab t.val)) := by
  decide +kernel
theorem fresh_eq (t : Fin cfg1.N) : cfg1.fresh 6 t.val = freshTab t.val :=
  Pipeline.Cfg.fresh_tab cfg1 6 freshTab rfl freshTab_step t.val (Nat.le_of_lt t.isLt)
theorem not_fresh (t : Fin cfg1.N) (h : t.val ≠ 0) : cfg1.fresh 6 t.val = false := by
  rw [fresh_eq]
  exact (by decide +kernel : ∀ t : Fin grid1.N, t.val ≠ 0 → freshTab t.val = false) t h

variable (V : Dev nD → Valuation τ sig (Elt F))

/-- Window `w`'s block of its array at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the first output's buffer holds after point `n`. -/
def retAt (c : Dev nD) : (n : ℕ) → n < cfg1.N → Vec F S1024x128 .f32
  | 0, h => k1_pay3 (iblk V c 0 ⟨0, h⟩) (iblk V c 1 ⟨0, h⟩) (iblk V c 2 ⟨0, h⟩) (iblk V c 4 ⟨0, h⟩) (iblk V c 3 ⟨0, h⟩)
  | n + 1, h => retNext (grid1.coords ⟨n + 1, h⟩) (iblk V c 0 ⟨n + 1, h⟩) (iblk V c 1 ⟨n + 1, h⟩) (iblk V c 2 ⟨n + 1, h⟩)
      (iblk V c 3 ⟨n + 1, h⟩) (iblk V c 4 ⟨n + 1, h⟩) (iblk V c 5 ⟨n + 1, h⟩) (retAt c n (Nat.lt_of_succ_lt h))

/-- The tile of weights stored at point `t`. -/
def tileAt (c : Dev nD) (t : Fin cfg1.N) : Vec F S1024x4096 .f32 :=
  k1_pay2 (iblk V c 0 t) (iblk V c 1 t) (iblk V c 2 t) (iblk V c 4 t) (iblk V c 5 t)

/-- The pipeline's proof data: the arrays as at entry; the inputs' buffers at their blocks, the outputs' at `retAt` and
    `tileAt`; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => retAt V c t.val t.isLt
    | ⟨7, _⟩ => tileAt V c t
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = retAt V c t.val t.isLt := by dsimp only [dat]
theorem after_7 (c : Dev nD) (t : Fin cfg1.N) : (dat V c).after 7 t = tileAt V c t := by dsimp only [dat]

/-- An input's buffer holds its block when the body runs, fetched there or not. -/
theorem before_in (c : Dev nD) (w : Fin cfg1.W) (hw : (cfg1.win w).isOut = false) (hlive : ∀ i, cfg1.idle w i = false)
    (hclip : ∀ t : Fin cfg1.N, ∀ a, (cfg1.win w).clip (cfg1.grid.coords t) a = none)
    (hkeep : ∀ t, (cfg1.win w).cut (cfg1.grid.coords t) ((dat V c).after w t) = (dat V c).blockOf w t)
    (t : Fin cfg1.N) (d) : (dat V c).before w t d = (dat V c).fetched w t d :=
  (dat V c).before_in_eq_fetched w hw hlive (fun t t' _ => funext fun a => (hclip t a).trans (hclip t' a).symm) hkeep t d

theorem before_0 (c : Dev nD) (t : Fin cfg1.N) (d) : (dat V c).before 0 t d = iblk V c 0 t :=
  (before_in V c 0 rfl (fun _ => rfl) (fun _ _ => rfl) (fun t => by rw [after_0]; unfold Dat.blockOf iblk; rw [A_eq]) t d).trans (by unfold Dat.fetched Dat.blockOf iblk; rw [A_eq]; rfl)
theorem before_1 (c : Dev nD) (t : Fin cfg1.N) (d) : (dat V c).before 1 t d = iblk V c 1 t :=
  (before_in V c 1 rfl (fun _ => rfl) (fun _ _ => rfl) (fun t => by rw [after_1]; unfold Dat.blockOf iblk; rw [A_eq]) t d).trans (by unfold Dat.fetched Dat.blockOf iblk; rw [A_eq]; rfl)
theorem before_2 (c : Dev nD) (t : Fin cfg1.N) (d) : (dat V c).before 2 t d = iblk V c 2 t :=
  (before_in V c 2 rfl (fun _ => rfl) (fun _ _ => rfl) (fun t => by rw [after_2]; unfold Dat.blockOf iblk; rw [A_eq]) t d).trans (by unfold Dat.fetched Dat.blockOf iblk; rw [A_eq]; rfl)
theorem before_3 (c : Dev nD) (t : Fin cfg1.N) (d) : (dat V c).before 3 t d = iblk V c 3 t :=
  (before_in V c 3 rfl (fun _ => rfl) (fun _ _ => rfl) (fun t => by rw [after_3]; unfold Dat.blockOf iblk; rw [A_eq]) t d).trans (by unfold Dat.fetched Dat.blockOf iblk; rw [A_eq]; rfl)
theorem before_4 (c : Dev nD) (t : Fin cfg1.N) (d) : (dat V c).before 4 t d = iblk V c 4 t :=
  (before_in V c 4 rfl (fun _ => rfl) (fun _ _ => rfl) (fun t => by rw [after_4]; unfold Dat.blockOf iblk; rw [A_eq]) t d).trans (by unfold Dat.fetched Dat.blockOf iblk; rw [A_eq]; rfl)
theorem before_5 (c : Dev nD) (t : Fin cfg1.N) (d) : (dat V c).before 5 t d = iblk V c 5 t :=
  (before_in V c 5 rfl (fun _ => rfl) (fun _ _ => rfl) (fun t => by rw [after_5]; unfold Dat.blockOf iblk; rw [A_eq]) t d).trans (by unfold Dat.fetched Dat.blockOf iblk; rw [A_eq]; rfl)

/-- The first output's buffer holds, after the first point, what the point before left. -/
theorem before_6 (c : Dev nD) (t : Fin cfg1.N) (h : t.val ≠ 0) (d) :
    (dat V c).before 6 t d = retAt V c (t.val - 1) (Nat.lt_of_le_of_lt (Nat.sub_le _ _) t.isLt) := by
  rw [Dat.before_out_traj _ 6 rfl (fun _ _ => rfl) (fun t _ hi _ => absurd ((live6 t).symm.trans hi) Bool.false_ne_true) t.val t rfl d,
    if_neg (by rw [not_fresh t h]; exact Bool.false_ne_true)]
  dsimp only [dat]

/-- The body's result for the first output, from whatever its buffer held, is `retAt`. -/
theorem ret_step (c : Dev nD) (t : Fin cfg1.N) (d) :
    retNext (grid1.coords t) (iblk V c 0 t) (iblk V c 1 t) (iblk V c 2 t) (iblk V c 3 t) (iblk V c 4 t) (iblk V c 5 t) ((dat V c).before 6 t d)
      = retAt V c t.val t.isLt := by
  by_cases h : t.val = 0
  · obtain ⟨n, hn⟩ := t
    obtain rfl : n = 0 := h
    unfold retNext; rw [if_pos ((cond1_iff _).mpr rfl)]; unfold retAt; rfl
  · rw [before_6 V c t h d]
    obtain ⟨n, hn⟩ := t
    cases n with
    | zero => exact absurd rfl h
    | succ n => rfl

/-- A window stored into at a point is left at `after` there. -/
theorem leaves_live (c : Dev nD) (w : Fin cfg1.W) (t : Fin cfg1.N) (h : cfg1.idle w (cfg1.grid.coords t) = false) :
    (dat V c).leavesExact w t = owns (c : Thread nD τ) ((cfg1.win w).stage (cfg1.slots t w)) fullShare ((dat V c).after w t) := by
  unfold Dat.leavesExact; rw [h]

/-- What the body starts from at point `t`. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d)) ∗ (∃ d, owns (c : Thread nD τ) (st1_1 t) fullShare ((dat V c).before 1 t d))
    ∗ (∃ d, owns (c : Thread nD τ) (st1_2 t) fullShare ((dat V c).before 2 t d)) ∗ (∃ d, owns (c : Thread nD τ) (st1_3 t) fullShare ((dat V c).before 3 t d))
    ∗ (∃ d, owns (c : Thread nD τ) (st1_4 t) fullShare ((dat V c).before 4 t d)) ∗ (∃ d, owns (c : Thread nD τ) (st1_5 t) fullShare ((dat V c).before 5 t d))
    ∗ (∃ d, owns (c : Thread nD τ) (st1_6 t) fullShare ((dat V c).before 6 t d)) ∗ (∃ d, owns (c : Thread nD τ) (st1_7 t) fullShare ((dat V c).before 7 t d)))

/-- What it leaves. -/
def bodyPost (c : Dev nD) (t : Fin cfg1.N) : sProp 𝕄 :=
  iprop((dat V c).Φ t.succ ∗ (dat V c).owesAt () t.succ ∗ (dat V c).leavesExact 0 t ∗ (dat V c).leavesExact 1 t ∗ (dat V c).leavesExact 2 t
    ∗ (dat V c).leavesExact 3 t ∗ (dat V c).leavesExact 4 t ∗ (dat V c).leavesExact 5 t ∗ (dat V c).leavesExact 6 t ∗ (dat V c).leavesExact 7 t)

/-- The body's triple at a generic point. -/
theorem sound_body (c : Dev nD) (t : Fin cfg1.N) :
    bodyPre V c t ⊢ wp frame (wpE (defs₀ (F := F)) Variants.none c none) Set.univ (bodyAt1 t) fun _ => bodyPost V c t := by
  unfold bodyPre bodyPost bodyAt1
  rw [leaves_live V c 0 t rfl, leaves_live V c 1 t rfl, leaves_live V c 2 t rfl, leaves_live V c 3 t rfl, leaves_live V c 4 t rfl,
    leaves_live V c 5 t rfl, leaves_live V c 6 t (live6 t), leaves_live V c 7 t rfl,
    after_0, after_1, after_2, after_3, after_4, after_5, after_6, after_7,
    show (dat V c).Φ t.succ = (dat V c).Φ t.castSucc from rfl, show (dat V c).owesAt () t.succ = (dat V c).owesAt () t.castSucc from rfl]
  simp only [before_0, before_1, before_2, before_3, before_4, before_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body c (grid1.coords t) _ _ _ _ _ _ _ _ _ _ _ _ _ _ _ _ (conds t) (iblk V c 0 t) (iblk V c 1 t) (iblk V c 2 t) (iblk V c 3 t) (iblk V c 4 t) (iblk V c 5 t) ((dat V c).before 6 t d6) ((dat V c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [ret_step V c t d6]
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t` is the body there. -/
theorem row (t : Fin cfg1.N) : defs₀ (F := F) .tc cfg1.body (cfg1.bodyArgs t (cfg1.slots t)) = bodyAt1 t := by
  unfold defs₀; rw [Defs.onTc_tc]

/-- The body's obligation. -/
theorem obligation (c : Dev nD) : BodyObligation (dat V c) (defs₀ (F := F)) Variants.none () Set.univ := fun t => by
  rw [bigSep_W1, bigSep_W1, row]
  exact triple_restated (sound_body V c t) rfl .rfl fun _ => .rfl

end Cert.KernelIdeal.Attn

end
-- ==== Proof.Run.lean ====
/-
  A run of the program: the host operations, the first kernel, the second kernel. Between them every buffer is held at a
  known valuation; at the end the arguments are as launched, the results are read off the last valuation, and every
  counter is zero.
-/
module

public import proofs.«01_k».proof.Proof.Stats
public import proofs.«01_k».proof.Proof.Attn
public import proofs.«01_k».proof.Proof.Gen.KernelIdeal.Regions
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Every buffer when the first kernel begins: the launch contents after the host operations. -/
def at1 (c : Dev nD) : Valuation τ sig (Elt F) := V6 m c
/-- Every buffer between the two kernels. -/
def at2 (c : Dev nD) : Valuation τ sig (Elt F) := Pipeline.afterRegion (Stats.dat (at1 m) c) (at1 m c)
/-- Every buffer when the second kernel has ended. -/
def at3 (c : Dev nD) : Valuation τ sig (Elt F) := Pipeline.afterRegion (Attn.dat (at2 m) c) (at2 m c)

/-- The two pipelines' proof data. -/
def pdats : (p : Fin 2) → (c : Dev nD) → Dat τ (Elt F) Unit ℕ (UR sig nD τ) ℕ (cfgs p) c
  | 0, c => Stats.dat (at1 m) c
  | 1, c => Attn.dat (at2 m) c

/-- Every cell of a TensorCore has the one index. -/
def lev (g : GSem nD τ sig) : Finset Unit := if g.1.2 = .tc then {()} else ∅
/-- All at one level. -/
def lv (_ : GSem nD τ sig) (_ : Unit) : ℕ := 0

/-- Nothing is owed in either pipeline, so its waits are allowed. -/
theorem cut (p : Fin 2) : Pipeline.LevelCut (pcfgs (F := F)) adm () lev lv p (fun _ => (0 : CellTallies nD τ sig Unit)) (fun _ => 0) where
  hι := by intros; simp [lev]
  hιb := by intros; exact le_rfl
  hD := by intro c g i h; exact absurd h (lt_irrefl _)

/-- What a core holds beside the buffers between the parts of the program. -/
def rest (c : Dev nD) : sProp 𝕄 :=
  iprop((∃ Wd, owes (c : Thread nD τ) (0 : CellTallies nD τ sig Unit) Wd) ∗ (∃ r, prngReg c r) ∗ emp)

/-- The first kernel's region. -/
def reg0 : RegionSeg (pcfgs (F := F)) adm (pdats m) () defs₀ Variants.none lev lv 0 :=
  RegionSeg.ofHeldIn pcfgs adm (pdats m) () defs₀ Variants.none lev lv 0 (fun _ => 0) (Pipeline.ucRefs τ sig)
    (fun c => iprop(∃ r, prngReg c r)) (fun c => iprop(∃ r, prngReg c r)) (Pipeline.LaunchFacts.toP launch0) rfl
    (fun c => (Stats.obligation (at1 m) c).loose) (fun _ _ => rfl) (fun _ => rfl)
    (fun c w => Dat.share_full _ (fun _ => rfl) w)
    (fun c => Stats.inv_first (at1 m) c) (fun c => Stats.inv_last (at1 m) c _) (fun _ => 0) (cut 0) (fun _ => iprop(emp))
    (fun c => at1 m c) (fun _ _ => rfl)

/-- The second kernel's region. -/
def reg1 : RegionSeg (pcfgs (F := F)) adm (pdats m) () defs₀ Variants.none lev lv 1 :=
  RegionSeg.ofHeldIn pcfgs adm (pdats m) () defs₀ Variants.none lev lv 1 (fun _ => 0) (Pipeline.ucRefs τ sig)
    (fun c => iprop(∃ r, prngReg c r)) (fun c => iprop(∃ r, prngReg c r)) (Pipeline.LaunchFacts.toP launch1) rfl
    (fun c => (Attn.obligation (at2 m) c).loose) (fun _ _ => rfl) (fun _ => rfl)
    (fun c w => Dat.share_full _ (fun _ => rfl) w)
    (fun c => .rfl) (fun c => .rfl) (fun _ => 0) (cut 1) (fun _ => iprop(emp))
    (fun c => at2 m c) (fun _ _ => rfl)

theorem pre0 (c : Dev nD) : iprop(StableHlo.held (c : Thread nD τ) (Pipeline.ucRefs τ sig) (at1 m c) ∗ rest (F := F) c) ⊢ (reg0 m).pre c := by
  unfold reg0 rest
  exact RegionSeg.ofHeldIn_pre (pcs := pcfgs) (a := adm) (pdats := pdats m) (ι := ()) (defs₀ := defs₀) (𝒱₀ := Variants.none) (L := lev)
    (lv := lv) (p := 0) (D := fun _ => 0) (S := Pipeline.ucRefs τ sig) (W := at1 m)
    (Y := fun c => iprop(∃ r, prngReg c r)) (b := fun _ => 0) (X := fun c => iprop(∃ r, prngReg c r)) (R := fun _ => iprop(emp)) (Pipeline.arrRefs_sub_ucRefs _ launch0.win.arr_unscoped) c
theorem post0 (c : Dev nD) : (reg0 m).post c ⊢ iprop(StableHlo.held (c : Thread nD τ) (Pipeline.ucRefs τ sig) (at2 m c) ∗ rest (F := F) c) :=
  RegionSeg.ofHeldIn_post (Pipeline.arrRefs_sub_ucRefs _ launch0.win.arr_unscoped) c
theorem pre1 (c : Dev nD) : iprop(StableHlo.held (c : Thread nD τ) (Pipeline.ucRefs τ sig) (at2 m c) ∗ rest (F := F) c) ⊢ (reg1 m).pre c := by
  unfold reg1 rest
  exact RegionSeg.ofHeldIn_pre (pcs := pcfgs) (a := adm) (pdats := pdats m) (ι := ()) (defs₀ := defs₀) (𝒱₀ := Variants.none) (L := lev)
    (lv := lv) (p := 1) (D := fun _ => 0) (S := Pipeline.ucRefs τ sig) (W := at2 m)
    (Y := fun c => iprop(∃ r, prngReg c r)) (b := fun _ => 0) (X := fun c => iprop(∃ r, prngReg c r)) (R := fun _ => iprop(emp)) (Pipeline.arrRefs_sub_ucRefs _ launch1.win.arr_unscoped) c
theorem post1 (c : Dev nD) : (reg1 m).post c ⊢ iprop(StableHlo.held (c : Thread nD τ) (Pipeline.ucRefs τ sig) (at3 m c) ∗ rest (F := F) c) :=
  RegionSeg.ofHeldIn_post (Pipeline.arrRefs_sub_ucRefs _ launch1.win.arr_unscoped) c

/-- A buffer that the host operations do not write and that is no output of a kernel ends as launched. -/
theorem kept (c : Dev nD) (r : Ref sig .tc) (h6 : V6 m c (Proc.devRef .tc r) = V0 m c (Proc.devRef .tc r))
    (h0 : ∀ w, Pipeline.arrRef spec0 w = r → (cfg0.win w).isOut = false)
    (h1 : ∀ w, Pipeline.arrRef spec1 w = r → (cfg1.win w).isOut = false) :
    at3 m c (Proc.devRef .tc r) = V0 m c (Proc.devRef .tc r) :=
  ((Pipeline.afterRegion_keeps (Attn.dat (at2 m) c) (at2 m c) launch1.win.arr_inj (fun w => Attn.A_eq _ c w) r h1).trans
    (Pipeline.afterRegion_keeps (Stats.dat (at1 m) c) (at1 m c) launch0.win.arr_inj (fun w => Stats.A_eq _ c w) r h0)).trans h6

/-- The host operations write none of the arguments. -/
theorem host_keeps (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) : V6 m c (Proc.devRef .tc r) = V0 m c (Proc.devRef .tc r) :=
  (V6_of m c r h5).trans ((V5_of m c r h4).trans ((V4_of m c r h3).trans ((V3_of m c r h2).trans ((V2_of m c r h1).trans (V1_of m c r h0)))))

theorem kept_arg0 (c : Dev nD) : at3 m c (Proc.devRef .tc main_arg0) = m ((c.tc : Thread nD τ).loc main_arg0) :=
  kept m c main_arg0 (host_keeps m c _ (by decide) (by decide) (by decide) (by decide) (by decide) (by decide)) (by decide) (by decide)
theorem kept_arg1 (c : Dev nD) : at3 m c (Proc.devRef .tc main_arg1) = m ((c.tc : Thread nD τ).loc main_arg1) :=
  kept m c main_arg1 (host_keeps m c _ (by decide) (by decide) (by decide) (by decide) (by decide) (by decide)) (by decide) (by decide)
theorem kept_arg2 (c : Dev nD) : at3 m c (Proc.devRef .tc main_arg2) = m ((c.tc : Thread nD τ).loc main_arg2) :=
  kept m c main_arg2 (host_keeps m c _ (by decide) (by decide) (by decide) (by decide) (by decide) (by decide)) (by decide) (by decide)
theorem kept_arg3 (c : Dev nD) : at3 m c (Proc.devRef .tc main_arg3) = m ((c.tc : Thread nD τ).loc main_arg3) :=
  kept m c main_arg3 (host_keeps m c _ (by decide) (by decide) (by decide) (by decide) (by decide) (by decide)) (by decide) (by decide)

/-- The program's items, each entered where the one before leaves. -/
abbrev items : Dev nD → List (Seg (pcfgs (F := F)) adm (pdats m) () defs₀ Variants.none lev lv) :=
  Gen.segs m Variants.none lev lv (fun _ c => rest (F := F) c) () (pdats m) (reg0 m) (reg1 m)

set_option backward.isDefEq.respectTransparency.types false in
/-- A run from any launch contents ends with the arguments as launched, the two results at what the second kernel's
    outputs hold, and every counter at zero. -/
theorem run (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v8_0) = at3 m c (Proc.devRef .tc main_v8_0)
      ∧ r.2.mem ((c.tc : Thread nD τ).loc main_v8_1) = at3 m c (Proc.devRef .tc main_v8_1))
      ∧ r.2.sem = fun _ => 0) := by
  refine Pipeline.θ_run_regions_kit_dev_sems (pcfgs (F := F)) adm (pdats m) () cellOf_inj emb₁ defs₀ Variants.none lev lv m ρ main
    (items m)
    (fun c Q => by
      rewrite [main_chain c, Seg.run_eq_chain,
        show (items m c).map Seg.prog = [StableHlo.seq hostOps0, StableHlo.seq hostOps0_1, StableHlo.seq hostOps0_2,
          StableHlo.seq hostOps0_3, StableHlo.seq hostOps0_4, StableHlo.seq hostOps0_5,
          Prog.lift (.customCall (Pipeline.entry 0) ()), Prog.lift (.customCall (Pipeline.entry 1) ())] from rfl]
      dsimp (config := { failIfUnchanged := false }) only
      exact .rfl)
    (fun c => by simp only [items, Gen.segs, Seg.pipes_host, Seg.pipes_region, Seg.pipes_nil]; decide)
    (fun _ => 0) (fun g h => if_neg h) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (V0 m c) ∗ rest (F := F) c))
    (Tₙ := fun c => StableHlo.held (c : Thread nD τ) (Pipeline.ucRefs τ sig) (at3 m c))
    (hch := fun c => ⟨.rfl, .rfl, .rfl, .rfl, .rfl, .rfl, pre0 m c, (post0 m c).trans (pre1 m c),
      (post1 m c).trans (sep_mono .rfl (by unfold rest; iintro ⟨H, -⟩; iexact H))⟩)
    (hinit := by
      refine Pipeline.initEach lev lv fun c => ?_
      rw [← Pipeline.unscopedBufs_held (Ix := Unit) (Name := ℕ) (U := UR sig nD τ) (Lvl := ℕ) c (V0 m c)]
      unfold rest
      iintro ⟨⟨Hb, -, HO, -, Hp, -⟩, -⟩
      imodintro
      isplitl [Hb]; · iexact Hb
      isplitl [HO]; · iexists _; iexact HO
      isplitl [Hp]; · iexists _; iexact Hp
      iempintro)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
      ∧ s.mem ((c.tc : Thread nD τ).loc main_v8_0) = at3 m c (Proc.devRef .tc main_v8_0)
      ∧ s.mem ((c.tc : Thread nD τ).loc main_v8_1) = at3 m c (Proc.devRef .tc main_v8_1))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (at3 m c) s') $$ [Hh HSI]
  · isplitl [Hh] <;> iassumption
  icases Hr with ⟨%h, HSI⟩
  imodintro
  isplitr
  · ipureintro
    have rd : ∀ b : Ref sig .tc, ¬b.isScoped = true → s'.mem.mem ((c.tc : Thread nD τ).loc b) = at3 m c (Proc.devRef .tc b) := fun b hb =>
      h (Proc.devRef .tc b) (Finset.mem_filter.mpr ⟨StableHlo.devRef_mem_tcRefs b, hb⟩)
    exact ⟨⟨(rd _ (by decide)).trans (kept_arg0 m c), (rd _ (by decide)).trans (kept_arg1 m c), (rd _ (by decide)).trans (kept_arg2 m c),
      (rd _ (by decide)).trans (kept_arg3 m c)⟩, rd _ (by decide), rd _ (by decide)⟩
  · iexact HSI

end Cert.KernelIdeal.Run

end
-- ==== Proof.Twin.lean ====
/-
  The program as printed and its idealized copy are the same program text, at any reading of the float operations: no
  rewriting took place between them.
-/
module

public import proofs.«01_k».proof.Proof.Gen.Kernel
public import proofs.«01_k».proof.Proof.Gen.KernelIdeal

@[expose] public section

set_option maxRecDepth 65536

noncomputable section

namespace Cert.Twin

open Idealize.ShloMosaic Idealize.SL.Sem

/-- The two kernel bodies agree. -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc ?_
  funext l x
  match l with
  | 0 => rfl
  | 1 => rfl

/-- So do the definitions with the pipelines' loops. -/
theorem defs_eq {F : FTy → Type} [FloatOps F] : Cert.Kernel.defs (F := F) = Cert.KernelIdeal.defs (F := F) := by
  unfold Cert.Kernel.defs Cert.KernelIdeal.defs
  rw [defs₀_eq]; rfl

/-- And the host programs. -/
theorem main_eq {F : FTy → Type} [FloatOps F] : Cert.Kernel.main (F := F) = Cert.KernelIdeal.main (F := F) := rfl

end Cert.Twin

end
-- ==== Proof.Frames.lean ====
/-
  The frames: each of the three programs leaves its arguments as they were and every counter at zero.
-/
module

public import proofs.«01_k».proof.Defs
public import proofs.«01_k».proof.Proof.Run
public import proofs.«01_k».proof.Proof.Twin
public import proofs.«01_k».proof.Proof.Gen.ReferenceIdeal.Run

@[expose] public section

set_option maxRecDepth 65536

noncomputable section

namespace Cert.Frames

open Idealize.ShloMosaic Idealize.ShloMosaic.TcCoe Idealize.SL.Sem

/-- The idealized kernel's frame, from any launch contents. -/
theorem kernelIdeal : Cert.quiescent_KernelIdeal (hKernelIdeal := Cert.KernelIdeal.Gen.facts) := fun m g _ =>
  (θ_run (Cert.KernelIdeal.defs (F := Ideal)) _ _).mono (fun _ h => ⟨fun c => (h.1 c).1, h.2⟩) (Cert.KernelIdeal.Run.run m g)

/-- The kernel's frame: the same run at the float bits. -/
theorem kernel : Cert.quiescent_Kernel (hKernel := Cert.Kernel.Gen.facts) := fun m g _ => by
  rw [Cert.Twin.defs_eq, Cert.Twin.main_eq]
  exact (θ_run (Cert.KernelIdeal.defs (F := Bits)) _ _).mono (fun _ h => ⟨fun c => (h.1 c).1, h.2⟩) (Cert.KernelIdeal.Run.run m g)

/-- The reference's frame: it is host operations alone, and declares no semaphore. -/
theorem referenceIdeal : Cert.quiescent_ReferenceIdeal (hReferenceIdeal := Cert.ReferenceIdeal.Gen.facts) := fun m g _ =>
  (θ_run (Cert.ReferenceIdeal.defs (F := Ideal)) _ _).mono
    (fun r h => ⟨fun c => (h c).2.2, sem_eq_zero_of_no_sems (by decide) r.2⟩) (Cert.ReferenceIdeal.Value.run m g)

end Cert.Frames

end
-- ==== Proof.Math.lean ====
/-
  The mathematics of the softmax over extended reals: the weights of scores that are real or −∞, how they change with the
  number subtracted, the sums over blocks and lanes, and the two forms of the weighted average.
-/
module

public import Idealize.ShloMosaic.Lib.Pointwise
public import Idealize.ShloMosaic.Lib.Pipeline.ValueKit

@[expose] public section

noncomputable section

namespace Cert.Softmax

open Idealize.ShloMosaic

/-- The weight of a score `x` against the number `μ`: `exp (x - μ)`, and nothing where the score is −∞. -/
def wt (x : EReal) (μ : ℝ) : ℝ := if x = ⊥ then 0 else Real.exp (x.toReal - μ)

theorem wt_bot (μ : ℝ) : wt ⊥ μ = 0 := if_pos rfl
theorem wt_coe (x μ : ℝ) : wt (x : EReal) μ = Real.exp (x - μ) := by
  unfold wt; rw [if_neg (EReal.coe_ne_bot x), EReal.toReal_coe]
theorem wt_nonneg (x : EReal) (μ : ℝ) : 0 ≤ wt x μ := by
  unfold wt; split
  · exact le_rfl
  · exact (Real.exp_pos _).le

/-- The exponential of a score below +∞ less a real is its weight. -/
theorem exp_sub (x : EReal) (hx : x ≠ ⊤) (μ : ℝ) : Ideal.exp (x - (μ : EReal)) = (wt x μ : EReal) := by
  induction x using EReal.rec with
  | bot => rw [wt_bot, EReal.bot_sub]; exact Ideal.exp_bot
  | coe x => rw [wt_coe, ← EReal.coe_sub, Ideal.exp_coe]
  | top => exact absurd rfl hx

/-- Another number to subtract scales the weight. -/
theorem wt_shift (x : EReal) (μ μ' : ℝ) : wt x μ * Real.exp (μ - μ') = wt x μ' := by
  unfold wt; split
  · exact zero_mul _
  · rw [← Real.exp_add]; congr 1; ring

/-- The larger of a real and a score below +∞ is real. -/
theorem max_real (x y : EReal) (hx : ∃ μ : ℝ, x = μ) (hy : y ≠ ⊤) : ∃ μ : ℝ, max x y = μ := by
  obtain ⟨μ, rfl⟩ := hx
  induction y using EReal.rec with
  | bot => exact ⟨μ, max_eq_left bot_le⟩
  | coe y =>
    rcases le_total (μ : EReal) y with h | h
    · exact ⟨y, max_eq_right h⟩
    · exact ⟨μ, max_eq_left h⟩
  | top => exact absurd rfl hy

/-- The largest of a nonempty family of reals, started from −∞, is real. -/
theorem fold_max_real {n : ℕ} (hn : 0 < n) (v : Fin n → EReal) (hv : ∀ k, ∃ μ : ℝ, v k = μ) :
    ∃ μ : ℝ, Finset.univ.fold max ⊥ v = μ := by
  have key : ∀ s : Finset (Fin n), s.Nonempty → ∃ μ : ℝ, s.fold max ⊥ v = μ := by
    intro s hs
    induction hs using Finset.Nonempty.cons_induction with
    | singleton a => obtain ⟨μ, h⟩ := hv a; exact ⟨μ, by rw [Finset.fold_singleton, h]; exact max_eq_left bot_le⟩
    | cons a s ha hs ih =>
      obtain ⟨μ, h⟩ := hv a
      obtain ⟨μ', h'⟩ := ih
      rw [Finset.fold_cons, h']
      exact max_real _ _ ⟨μ, h⟩ (EReal.coe_ne_top _)
  exact key _ ⟨⟨0, hn⟩, Finset.mem_univ _⟩

/-- A sum of reals is real. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real scale that is not negative goes into a sum. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The scores of a row: real up to the number of slots, −∞ from there on. -/
structure IsScore (x : ℕ → EReal) (ℓ : ℕ → ℝ) : Prop where
  real : ∀ j, j < 100000 → x j = ℓ j
  bot : ∀ j, 100000 ≤ j → x j = ⊥

theorem IsScore.ne_top {x : ℕ → EReal} {ℓ : ℕ → ℝ} (h : IsScore x ℓ) (j : ℕ) : x j ≠ ⊤ := by
  rcases Nat.lt_or_ge j 100000 with hj | hj
  · rw [h.real j hj]; exact EReal.coe_ne_top _
  · rw [h.bot j hj]; exact bot_ne_top

/-- The sum of the exponentials of a row's scores. -/
def den (ℓ : ℕ → ℝ) : ℝ := ∑ j ∈ Finset.range 100000, Real.exp (ℓ j)
/-- The softmax. -/
def prob (ℓ : ℕ → ℝ) (j : ℕ) : ℝ := Real.exp (ℓ j) / den ℓ

theorem den_pos (ℓ : ℕ → ℝ) : 0 < den ℓ :=
  Finset.sum_pos (fun j _ => Real.exp_pos _) ⟨0, Finset.mem_range.mpr (by norm_num)⟩

/-- The sum of the weights against any number. -/
theorem sum_shift (ℓ : ℕ → ℝ) (μ : ℝ) : ∑ j ∈ Finset.range 100000, Real.exp (ℓ j - μ) = den ℓ * Real.exp (-μ) := by
  unfold den; rw [Finset.sum_mul]
  refine Finset.sum_congr rfl fun j _ => ?_
  rw [← Real.exp_add]; congr 1

/-- The softmax does not depend on the number subtracted. -/
theorem shift_div (ℓ : ℕ → ℝ) (μ : ℝ) (j : ℕ) : Real.exp (ℓ j - μ) * (1 / (den ℓ * Real.exp (-μ))) = prob ℓ j := by
  have h1 := (den_pos ℓ).ne'
  have h2 := (Real.exp_pos (-μ)).ne'
  unfold prob
  rw [sub_eq_add_neg, Real.exp_add]
  field_simp

/-- A sum over the padded slots of a function that vanishes on the padding. -/
theorem sum_padded {M : Type} [AddCommMonoid M] (f : ℕ → M) (h : ∀ j, 100000 ≤ j → f j = 0) :
    ∑ j ∈ Finset.range 102400, f j = ∑ j ∈ Finset.range 100000, f j :=
  (Finset.sum_subset (Finset.range_mono (by norm_num)) fun j _ hj => h j (by simpa using hj)).symm

/-- The weights over the padded slots sum to the denominator. -/
theorem sum_wt {x : ℕ → EReal} {ℓ : ℕ → ℝ} (h : IsScore x ℓ) (μ : ℝ) :
    ∑ j ∈ Finset.range 102400, wt (x j) μ = den ℓ * Real.exp (-μ) := by
  rw [sum_padded _ fun j hj => by rw [h.bot j hj, wt_bot], ← sum_shift]
  exact Finset.sum_congr rfl fun j hj => by rw [h.real j (Finset.mem_range.mp hj), wt_coe]

/-- The slots by lanes: a lane's sums over the blocks and the groups of a block, summed over the lanes. -/
theorem sum_lanes (f : ℕ → ℝ) :
    ∑ l ∈ Finset.range 128, ∑ t ∈ Finset.range 25, ∑ k ∈ Finset.range 32, f (4096 * t + (128 * k + l)) = ∑ j ∈ Finset.range 102400, f j := by
  rw [show 102400 = 25 * 4096 from rfl, Finset.sum_range_mul_split, Finset.sum_comm]
  refine Finset.sum_congr rfl fun t _ => ?_
  rw [show 4096 = 32 * 128 from rfl, Finset.sum_range_mul_split, Finset.sum_comm]
  refine Finset.sum_congr rfl fun k _ => Finset.sum_congr rfl fun l _ => ?_
  congr 1; ring

/-- The weight of a slot over the sum of the weights is the softmax. -/
theorem wt_mul {x : ℕ → EReal} {ℓ : ℕ → ℝ} (h : IsScore x ℓ) (μ : ℝ) (j : ℕ) (hj : j < 100000) :
    wt (x j) μ * (1 / (den ℓ * Real.exp (-μ))) = prob ℓ j := by
  rw [h.real j hj, wt_coe, shift_div]

/-- The weighted sum over blocks, scaled at the end, is the average with the softmax. -/
theorem sum_blocks {x : ℕ → EReal} {ℓ : ℕ → ℝ} (h : IsScore x ℓ) (μ : ℝ) (y : ℕ → EReal) :
    (∑ t ∈ Finset.range 25, ∑ l ∈ Finset.range 4096, (wt (x (4096 * t + l)) μ : EReal) * y (4096 * t + l)) * ((1 / (den ℓ * Real.exp (-μ)) : ℝ) : EReal)
      = ∑ j ∈ Finset.range 100000, (prob ℓ j : EReal) * y j := by
  have hc : 0 ≤ 1 / (den ℓ * Real.exp (-μ)) := one_div_nonneg.mpr (mul_pos (den_pos ℓ) (Real.exp_pos _)).le
  have e : ∑ t ∈ Finset.range 25, ∑ l ∈ Finset.range 4096, (wt (x (4096 * t + l)) μ : EReal) * y (4096 * t + l)
      = ∑ j ∈ Finset.range 102400, (wt (x j) μ : EReal) * y j := by
    rw [show 102400 = 25 * 4096 from rfl, Finset.sum_range_mul_split]
    exact Finset.sum_congr rfl fun t _ => Finset.sum_congr rfl fun l _ => by rw [Nat.mul_comm]
  rw [e, sum_padded _ fun j hj => by rw [h.bot j hj, wt_bot]; simp, sum_mul_coe _ _ _ hc]
  refine Finset.sum_congr rfl fun j hj => ?_
  rw [mul_right_comm, ← EReal.coe_mul, wt_mul h μ j (Finset.mem_range.mp hj)]

end Cert.Softmax

end
-- ==== Proof.StatsStep.lean ====
/-
  One step of the first kernel at an entry of its scratch buffers, over the extended reals: the running maximum stays
  real, and the running sum is rescaled and increased by the weights of the block's scores in that lane.
-/
module

public import proofs.«01_k».proof.Proof.Math
public import proofs.«01_k».proof.Proof.Stats

@[expose] public section

set_option maxRecDepth 16384

noncomputable section

namespace Cert.KernelIdeal.Stats

open Cert.KernelIdeal Cert.KernelIdeal.Gen Cert.Softmax
open Idealize.ShloMosaic Idealize.ShloMosaic.TcCoe Idealize.ShloMosaic.Tactic

variable (i : grid0.Coords) (x0 : Vec Ideal S1024x128 .bf16) (x1 : Vec Ideal S4096x128 .bf16) (x2 : Vec Ideal S1x4096 .f32)
  (a b : Vec Ideal S1024x128 .f32) (r : Fin 1024) (l : Fin 128) (X : ℕ → EReal)

/-- The running maximum after a block is real if it was before. -/
theorem maxNext_real (hX : ∀ k : Fin 4096, k0_pay4 x0 x1 x2 (ix2 r k) = X k.val) (hne : ∀ k, X k ≠ ⊤)
    (ha : ∃ α : ℝ, k0_pay5 i a (ix2 r l) = α) : ∃ μ : ℝ, maxNext i x0 x1 x2 a (ix2 r l) = μ := by
  unfold maxNext
  pointwise [k0_pay9, k0_pay7, k0_pay8]
  simp only [hX]
  repeat' (first | exact ha | exact hne _ | apply max_real)

/-- The running sum after a block. -/
theorem sumNext_eq (hX : ∀ k : Fin 4096, k0_pay4 x0 x1 x2 (ix2 r k) = X k.val) (hne : ∀ k, X k ≠ ⊤)
    (α β μ : ℝ) (ha : k0_pay5 i a (ix2 r l) = α) (hb : k0_pay6 i b (ix2 r l) = β) (hμ : maxNext i x0 x1 x2 a (ix2 r l) = μ) :
    sumNext i x0 x1 x2 a b (ix2 r l)
      = ((β * Real.exp (α - μ) + ∑ k ∈ Finset.range 32, wt (X (128 * k + l.val)) μ : ℝ) : EReal) := by
  unfold maxNext at hμ
  unfold sumNext maxNext
  pointwise [k0_pay14, k0_pay13, k0_pay12, k0_pay11, k0_pay10]
  simp only [hX, ha, hb, hμ, exp_sub _ (hne _), ← EReal.coe_sub, Ideal.exp_coe, ← EReal.coe_mul, ← EReal.coe_add]
  simp only [Finset.sum_range_succ, Finset.sum_range_zero, Nat.reduceMul, zero_add, Nat.mul_zero, Nat.mul_one]

end Cert.KernelIdeal.Stats

end
-- ==== Proof.Host.lean ====
/-
  What the host operations leave for the two kernels: the query in the kernels' format, the two tables padded by zero
  rows, the bias padded by −∞.
-/
module

public import proofs.«01_k».proof.Proof.Math
public import proofs.«01_k».proof.Proof.Run

@[expose] public section

set_option maxRecDepth 16384

noncomputable section

namespace Cert.KernelIdeal.Run

open Cert.KernelIdeal Cert.KernelIdeal.Gen Cert.Softmax
open Idealize.ShloMosaic Idealize.ShloMosaic.TcCoe Idealize.ShloMosaic.Tactic

/-- A table of `100000` rows padded by zero rows. -/
def padRows (x : FVec Ideal S100000x128 .f32) (j : ℕ) (k : Fin 128) : EReal := if h : j < 100000 then x (ix2 ⟨j, h⟩ k) else 0
/-- A vector of `100000` entries padded by −∞. -/
def padBot (x : FVec Ideal S100000 .f32) (j : ℕ) : EReal := if h : j < 100000 then x (ix1 ⟨j, h⟩) else ⊥

/-- The integer zero as a float is zero. -/
theorem zero : (FloatOps.sitofp .f32 (0#32) : Ideal .f32) = (0 : EReal) := by
  show ((((0#32 : BitVec 32).toInt : ℤ) : ℝ) : EReal) = 0
  simp
/-- The word of −∞. -/
theorem neg_inf : Ideal.ofBits .f32 0xFF800000#32 = ⊥ := by
  simp [Ideal.ofBits, Ideal.ieee]

/-- The padding of a table, at a row. -/
theorem padRows_eq (x : FVec Ideal S100000x128 .f32) (j : Fin 102400) (k : Fin 128) :
    pad S102400x128 ![0, 0] ![2400, 0] ![0, 0] x (sitofp .f32 (constantI S_ 32 0#32)) pads_S100000x128_S102400x128_024000_000 h_S_ (ix2 j k)
      = padRows x j.val k := by
  unfold padRows
  pointwise
  rw [show (FloatOps.sitofp .f32 (0#32) : Ideal .f32) = 0 from zero]

/-- The padding of the bias, at an entry. -/
theorem padBot_eq (x : FVec Ideal S100000 .f32) (j : Fin 102400) :
    pad S1x102400 ![0, 0] ![0, 2400] ![0, 0] (shapeCast S1x100000 x shapeCasts_S100000_S1x100000) (constant S_ .f32 0xFF800000#32) pads_S1x100000_S1x102400_000_024000 h_S_ (ix2 0 j)
      = padBot x j.val := by
  unfold padBot
  pointwise
  rw [neg_inf]

variable {F : FTy → Type} [FloatOps F]
variable (m : (ℓ : Loc nD τ sig) → Buf (Elt F) ℓ)

/-- The query in the kernels' format. -/
theorem host_v0 (c : Dev nD) : at1 m c (Proc.devRef .tc main_v0)
    = (truncf .bf16 (m ((c.tc : Thread nD τ).loc main_arg0)) bitsLt_bf16_f32 : FVec F S1024x128 .bf16) := by
  unfold at1
  rw [V6_of _ _ _ (by decide), V5_of _ _ _ (by decide), V4_of _ _ _ (by decide), V3_of _ _ _ (by decide), V2_of _ _ _ (by decide)]
  unfold V1
  after_results
/-- The access table, padded. -/
theorem host_v2 (c : Dev nD) : at1 m c (Proc.devRef .tc main_v2)
    = (truncf .bf16 (pad S102400x128 ![0, 0] ![2400, 0] ![0, 0] (m ((c.tc : Thread nD τ).loc main_arg2)) (sitofp .f32 (constantI S_ 32 0#32)) pads_S100000x128_S102400x128_024000_000 h_S_) bitsLt_bf16_f32 : FVec F S102400x128 .bf16) := by
  unfold at1
  rw [V6_of _ _ _ (by decide), V5_of _ _ _ (by decide), V4_of _ _ _ (by decide)]
  unfold V3 V2 V1
  after_results
  rfl
/-- The memory, padded. -/
theorem host_v4 (c : Dev nD) : at1 m c (Proc.devRef .tc main_v4)
    = (truncf .bf16 (pad S102400x128 ![0, 0] ![2400, 0] ![0, 0] (m ((c.tc : Thread nD τ).loc main_arg1)) (sitofp .f32 (constantI S_ 32 0#32)) pads_S100000x128_S102400x128_024000_000 h_S_) bitsLt_bf16_f32 : FVec F S102400x128 .bf16) := by
  unfold at1
  rw [V6_of _ _ _ (by decide)]
  unfold V5 V4 V3 V2 V1
  after_results
  rfl
/-- The bias, padded. -/
theorem host_v6 (c : Dev nD) : at1 m c (Proc.devRef .tc main_v6)
    = (pad S1x102400 ![0, 0] ![0, 2400] ![0, 0] (shapeCast S1x100000 (m ((c.tc : Thread nD τ).loc main_arg3) : FVec F S100000 .f32) shapeCasts_S100000_S1x100000) (constant S_ .f32 0xFF800000#32) pads_S1x100000_S1x102400_000_024000 h_S_ : FVec F S1x102400 .f32) := by
  unfold at1 V6 V5 V4 V3 V2 V1
  after_results
  rfl

/-! ## The scores -/

section
variable (q : FVec Ideal S1024x128 .f32) (w : FVec Ideal S100000x128 .f32) (b : FVec Ideal S100000 .f32)

/-- The score of a padded slot for a row of the query: the product of the two rows, and the bias. -/
def score (r : Fin 1024) (j : ℕ) : EReal := ∑ k : Fin 128, q (ix2 r k) * padRows w j k + padBot b j

theorem score_of_lt (r : Fin 1024) (j : ℕ) (h : j < 100000) :
    score q w b r j = ∑ k : Fin 128, q (ix2 r k) * w (ix2 ⟨j, h⟩ k) + b (ix1 ⟨j, h⟩) := by
  unfold score padBot padRows
  simp only [dif_pos h]

/-- With real inputs the scores are real up to the number of slots, and −∞ from there on. -/
theorem isScore (hq : ∀ i, ∃ x : ℝ, q i = (x : EReal)) (hw : ∀ i, ∃ x : ℝ, w i = (x : EReal)) (hb : ∀ i, ∃ x : ℝ, b i = (x : EReal)) (r : Fin 1024) :
    IsScore (score q w b r) fun j => (score q w b r j).toReal where
  real j hj := by
    choose q' hq using hq
    choose w' hw using hw
    choose b' hb using hb
    rw [score_of_lt _ _ _ _ _ hj]
    simp only [hq, hw, hb, ← EReal.coe_mul, coe_sum, ← EReal.coe_add, EReal.toReal_coe]
  bot j hj := by
    unfold score padBot padRows
    simp only [dif_neg (Nat.not_lt.mpr hj), mul_zero, Finset.sum_const_zero]
    exact EReal.add_bot _

end

end Cert.KernelIdeal.Run

end
-- ==== Proof.Blocks.lean ====
/-
  The blocks of the two kernels' windows at a coordinate of their arrays, and what the outputs' arrays hold at the end.
-/
module

public import proofs.«01_k».proof.Proof.Run
public import Idealize.ShloMosaic.Lib.Pointwise
public import Idealize.ShloMosaic.Lib.Pipeline.ValueKit

@[expose] public section

set_option maxRecDepth 16384

noncomputable section

namespace Cert.KernelIdeal

open Cert.KernelIdeal.Gen
open Idealize.ShloMosaic Idealize.ShloMosaic.TcCoe Idealize.ShloMosaic.Tactic
open Idealize.ShloMosaic.Pipeline (Dat)

variable {F : FTy → Type} [FloatOps F]
variable (V : Dev nD → Valuation τ sig (Elt F))

/-- A slot of a block within the padded slots. -/
theorem slot0 (t : Fin cfg0.N) (l : Fin 4096) : 4096 * t.val + l.val < 102400 := by
  have h : t.val < 25 := lt_of_lt_of_eq t.isLt N_0
  omega
theorem slot1 (t : Fin cfg1.N) (l : Fin 4096) : 4096 * t.val + l.val < 102400 := by
  have h : t.val < 25 := lt_of_lt_of_eq t.isLt N_1
  omega

namespace Stats

theorem index_0 : ∀ t : Fin cfg0.N, win0_0.index t = ![0, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, t.val] := (by decide +kernel : ∀ t : Fin grid0.N, _)

theorem iblk_0 (c : Dev nD) (t : Fin cfg0.N) (r : Fin 1024) (k : Fin 128) :
    (iblk V c 0 t : Vec F S1024x128 .bf16) (ix2 r k) = (V c (Proc.devRef .tc main_v0) : Vec F S1024x128 .bf16) (ix2 r k) := by
  blk_ext [iblk, index_0]
theorem iblk_1 (c : Dev nD) (t : Fin cfg0.N) (l : Fin 4096) (k : Fin 128) :
    (iblk V c 1 t : Vec F S4096x128 .bf16) (ix2 l k) = (V c (Proc.devRef .tc main_v2) : Vec F S102400x128 .bf16) (ix2 ⟨4096 * t.val + l.val, slot0 t l⟩ k) := by
  blk_ext [iblk, index_1]
theorem iblk_2 (c : Dev nD) (t : Fin cfg0.N) (l : Fin 4096) :
    (iblk V c 2 t : Vec F S1x4096 .f32) (ix2 0 l) = (V c (Proc.devRef .tc main_v6) : Vec F S1x102400 .f32) (ix2 0 ⟨4096 * t.val + l.val, slot0 t l⟩) := by
  blk_ext [iblk, index_2]

/-- The row maxima the first kernel leaves. -/
theorem arr_3 (c : Dev nD) : ((dat V c).arrAt 3 cfg0.N : Vec F S1024x1 .f32) = k0_pay2 (stAt V c 24 (by decide)).1 := by
  refine Dat.arrAt_eq_of_after_last (dat V c) 3 ⟨24, by decide⟩ (by decide +kernel) _ fun y => ?_
  rw [show (dat V c).after 3 ⟨24, by decide⟩ = k0_pay2 (stAt V c 24 (by decide)).1 from after_3 V c _]
  generalize k0_pay2 (stAt V c 24 (by decide)).1 = f; rfl
/-- The inverses of the row sums the first kernel leaves. -/
theorem arr_4 (c : Dev nD) : ((dat V c).arrAt 4 cfg0.N : Vec F S1024x1 .f32) = k0_pay3 (stAt V c 24 (by decide)).1 (stAt V c 24 (by decide)).2 := by
  refine Dat.arrAt_eq_of_after_last (dat V c) 4 ⟨24, by decide⟩ (by decide +kernel) _ fun y => ?_
  rw [show (dat V c).after 4 ⟨24, by decide⟩ = k0_pay3 (stAt V c 24 (by decide)).1 (stAt V c 24 (by decide)).2 from after_4 V c _]
  generalize k0_pay3 (stAt V c 24 (by decide)).1 (stAt V c 24 (by decide)).2 = f; rfl

end Stats

namespace Attn

theorem index_0 : ∀ t : Fin cfg1.N, win1_0.index t = ![0, 0] := (by decide +kernel : ∀ t : Fin grid1.N, _)
theorem index_1 : ∀ t : Fin cfg1.N, win1_1.index t = ![t.val, 0] := (by decide +kernel : ∀ t : Fin grid1.N, _)
theorem index_2 : ∀ t : Fin cfg1.N, win1_2.index t = ![0, t.val] := (by decide +kernel : ∀ t : Fin grid1.N, _)
theorem index_3 : ∀ t : Fin cfg1.N, win1_3.index t = ![t.val, 0] := (by decide +kernel : ∀ t : Fin grid1.N, _)
theorem index_4 : ∀ t : Fin cfg1.N, win1_4.index t = ![0, 0] := (by decide +kernel : ∀ t : Fin grid1.N, _)
theorem index_5 : ∀ t : Fin cfg1.N, win1_5.index t = ![0, 0] := (by decide +kernel : ∀ t : Fin grid1.N, _)
theorem index_7 : ∀ t : Fin cfg1.N, win1_7.index t = ![0, t.val] := (by decide +kernel : ∀ t : Fin grid1.N, _)

theorem iblk_0 (c : Dev nD) (t : Fin cfg1.N) (r : Fin 1024) (k : Fin 128) :
    (iblk V c 0 t : Vec F S1024x128 .bf16) (ix2 r k) = (V c (Proc.devRef .tc main_v0) : Vec F S1024x128 .bf16) (ix2 r k) := by
  blk_ext [iblk, index_0]
theorem iblk_1 (c : Dev nD) (t : Fin cfg1.N) (l : Fin 4096) (k : Fin 128) :
    (iblk V c 1 t : Vec F S4096x128 .bf16) (ix2 l k) = (V c (Proc.devRef .tc main_v2) : Vec F S102400x128 .bf16) (ix2 ⟨4096 * t.val + l.val, slot1 t l⟩ k) := by
  blk_ext [iblk, index_1]
theorem iblk_2 (c : Dev nD) (t : Fin cfg1.N) (l : Fin 4096) :
    (iblk V c 2 t : Vec F S1x4096 .f32) (ix2 0 l) = (V c (Proc.devRef .tc main_v6) : Vec F S1x102400 .f32) (ix2 0 ⟨4096 * t.val + l.val, slot1 t l⟩) := by
  blk_ext [iblk, index_2]
theorem iblk_3 (c : Dev nD) (t : Fin cfg1.N) (l : Fin 4096) (k : Fin 128) :
    (iblk V c 3 t : Vec F S4096x128 .bf16) (ix2 l k) = (V c (Proc.devRef .tc main_v4) : Vec F S102400x128 .bf16) (ix2 ⟨4096 * t.val + l.val, slot1 t l⟩ k) := by
  blk_ext [iblk, index_3]
theorem iblk_4 (c : Dev nD) (t : Fin cfg1.N) (r : Fin 1024) :
    (iblk V c 4 t : Vec F S1024x1 .f32) (ix2 r 0) = (V c (Proc.devRef .tc main_v7_0) : Vec F S1024x1 .f32) (ix2 r 0) := by
  blk_ext [iblk, index_4]
theorem iblk_5 (c : Dev nD) (t : Fin cfg1.N) (r : Fin 1024) :
    (iblk V c 5 t : Vec F S1024x1 .f32) (ix2 r 0) = (V c (Proc.devRef .tc main_v7_1) : Vec F S1024x1 .f32) (ix2 r 0) := by
  blk_ext [iblk, index_5]

/-- The averages the second kernel leaves. -/
theorem arr_6 (c : Dev nD) : ((dat V c).arrAt 6 cfg1.N : Vec F S1024x128 .f32) = retAt V c 24 (by decide) := by
  refine Dat.arrAt_eq_of_after_last (dat V c) 6 ⟨24, by decide⟩ (by decide +kernel) _ fun y => ?_
  rw [show (dat V c).after 6 ⟨24, by decide⟩ = retAt V c 24 (by decide) from after_6 V c _]
  generalize retAt V c 24 (by decide) = f; rfl

/-- A tile's entry is the whole's at the same row and slot. -/
theorem tile_eq (c : Dev nD) (t : Fin cfg1.N) (G : Vec F S1024x100000 .f32)
    (h : ∀ (r : Fin 1024) (l : Fin 4096) (hl : 4096 * t.val + l.val < 100000), tileAt V c t (ix2 r l) = G (ix2 r ⟨4096 * t.val + l.val, hl⟩))
    (i : S1024x4096.Idx) (j : S1024x100000.Idx) (h0 : (j 0).val = (i 0).val) (h1 : (j 1).val = 4096 * t.val + (i 1).val) :
    tileAt V c t i = G j := by
  have hl : 4096 * t.val + (i 1).val < 100000 := h1 ▸ (j 1).isLt
  have ei : i = ix2 (i 0) (i 1) := by funext a; fin_cases a <;> rfl
  have ej : j = ix2 (i 0) ⟨4096 * t.val + (i 1).val, hl⟩ := by
    funext a; fin_cases a
    · exact Fin.ext h0
    · exact Fin.ext h1
  exact (congrArg _ ei).trans ((h (i 0) (i 1) hl).trans (congrArg G ej.symm))

/-- The weights the second kernel leaves, from what its tiles hold at the slots that exist. -/
theorem arr_7 (c : Dev nD) (G : Vec F S1024x100000 .f32)
    (h : ∀ (t : Fin cfg1.N) (r : Fin 1024) (l : Fin 4096) (hl : 4096 * t.val + l.val < 100000), tileAt V c t (ix2 r l) = G (ix2 r ⟨4096 * t.val + l.val, hl⟩)) :
    ((dat V c).arrAt 7 cfg1.N : Vec F S1024x100000 .f32) = G := by
  refine (dat V c).arrAt_eq_of_covers 7 _ (by decide +kernel) fun t hf y => ?_
  blk_simp
  rw [after_7]
  have h0 : (((win1_7.blk t).view.emb y 0 : Fin _) : ℕ) = (y 0 : ℕ) := by blk_simp [index_7]
  have h1 : (((win1_7.blk t).view.emb y 1 : Fin _) : ℕ) = 4096 * t.val + (y 1 : ℕ) := by blk_simp [index_7]; omega
  have i0 : (((cfg1.win 7).xinj (cfg1.grid.coords t) y 0 : Fin 1024) : ℕ) = (y 0 : ℕ) := rfl
  have i1 : (((cfg1.win 7).xinj (cfg1.grid.coords t) y 1 : Fin 4096) : ℕ) = (y 1 : ℕ) := rfl
  generalize (cfg1.win 7).xinj (cfg1.grid.coords t) y = i at i0 i1 ⊢
  generalize (win1_7.blk t).view.emb y = j at h0 h1 ⊢
  exact tile_eq V c t G (h t) i j (h0.trans i0.symm) (h1.trans (by rw [i1]))

end Attn

end Cert.KernelIdeal

end
-- ==== Proof.StatsVal.lean ====
/-
  What the first kernel leaves, over the extended reals: per row a real number, and the inverse of the sum of the
  exponentials of the row's scores less that number.
-/
module

public import proofs.«01_k».proof.Proof.StatsStep
public import proofs.«01_k».proof.Proof.Host
public import proofs.«01_k».proof.Proof.Blocks

@[expose] public section

set_option maxRecDepth 16384

noncomputable section

namespace Cert.KernelIdeal.Stats

open Cert.KernelIdeal Cert.KernelIdeal.Gen Cert.Softmax Cert.KernelIdeal.Run
open Idealize.ShloMosaic Idealize.ShloMosaic.TcCoe Idealize.ShloMosaic.Tactic

/-! ## The values of the kernel's terms at an entry -/

theorem pay4_eq (x0 : Vec Ideal S1024x128 .bf16) (x1 : Vec Ideal S4096x128 .bf16) (x2 : Vec Ideal S1x4096 .f32) (r : Fin 1024) (l : Fin 4096) :
    k0_pay4 x0 x1 x2 (ix2 r l) = ∑ k : Fin 128, x0 (ix2 r k) * x1 (ix2 l k) + x2 (ix2 0 l) := by
  pointwise [k0_pay4]
theorem pay2_eq (v : FVec Ideal S1024x128 .f32) (r : Fin 1024) :
    k0_pay2 v (ix2 r 0) = Finset.univ.fold max ⊥ fun l : Fin 128 => v (ix2 r l) := by
  pointwise [k0_pay2]
  rw [neg_inf]
theorem pay3_eq (v s : FVec Ideal S1024x128 .f32) (r : Fin 1024) :
    k0_pay3 v s (ix2 r 0) = Ideal.div 1 (∑ l : Fin 128, s (ix2 r l) * Ideal.exp (v (ix2 r l) - k0_pay2 v (ix2 r 0))) := by
  pointwise [k0_pay3]

/-- The test for the first point fails at every later one. -/
theorem later (t : Fin cfg0.N) (h : t.val ≠ 0) : Scalar.cmpi .eq (BitVec.ofNat 32 (grid0.coords t 0).val) 0#32 = 0#1 :=
  (by decide +kernel : ∀ t : Fin grid0.N, t.val ≠ 0 → Scalar.cmpi .eq (BitVec.ofNat 32 (grid0.coords t 0).val) 0#32 = 0#1) t h

theorem pay5_later (t : Fin cfg0.N) (h : t.val ≠ 0) (a : Vec Ideal S1024x128 .f32) : k0_pay5 (grid0.coords t) a = a := by
  unfold k0_pay5; dsimp only; rw [later t h]; rfl
theorem pay6_later (t : Fin cfg0.N) (h : t.val ≠ 0) (a : Vec Ideal S1024x128 .f32) : k0_pay6 (grid0.coords t) a = a := by
  unfold k0_pay6; dsimp only; rw [later t h]; rfl
/-- The number the running maximum starts from is real. -/
theorem start_real : ∃ α : ℝ, Ideal.ofBits .f32 0xF149F2CA#32 = (α : EReal) := by
  refine ⟨-(13234890 * 2 ^ 76), ?_⟩
  simp [Ideal.ofBits, Ideal.ieee]
theorem pay5_zero (h : 0 < cfg0.N) (a : Vec Ideal S1024x128 .f32) (i) : k0_pay5 (grid0.coords ⟨0, h⟩) a i = Ideal.ofBits .f32 0xF149F2CA#32 := by
  unfold k0_pay5; dsimp only; rw [coord_zero h]; rfl
theorem pay6_zero (h : 0 < cfg0.N) (a : Vec Ideal S1024x128 .f32) (i) : k0_pay6 (grid0.coords ⟨0, h⟩) a i = ((0 : ℝ) : EReal) := by
  unfold k0_pay6; dsimp only; rw [coord_zero h]
  exact (show _ = Ideal.ofBits .f32 0x00000000#32 from rfl).trans (by simp [Ideal.ofBits, Ideal.ieee])

variable (m : (ℓ : Loc nD τ sig) → Buf (Elt Ideal) ℓ) (c : Dev nD)

/-- The scores of a run from `m`. -/
abbrev scoreOf (r : Fin 1024) (j : ℕ) : EReal :=
  score (m ((c.tc : Thread nD τ).loc main_arg0)) (m ((c.tc : Thread nD τ).loc main_arg2)) (m ((c.tc : Thread nD τ).loc main_arg3)) r j

/-- The padded table at a row, as a kernel reads it. -/
theorem v2_at (j : Fin 102400) (k : Fin 128) :
    (at1 m c (Proc.devRef .tc main_v2) : Vec Ideal S102400x128 .bf16) (ix2 j k) = padRows (m ((c.tc : Thread nD τ).loc main_arg2)) j.val k := by
  rw [host_v2, ← padRows_eq]; rfl
/-- The padded memory at a row, as a kernel reads it. -/
theorem v4_at (j : Fin 102400) (k : Fin 128) :
    (at1 m c (Proc.devRef .tc main_v4) : Vec Ideal S102400x128 .bf16) (ix2 j k) = padRows (m ((c.tc : Thread nD τ).loc main_arg1)) j.val k := by
  rw [host_v4, ← padRows_eq]; rfl
/-- The padded bias at a slot, as a kernel reads it. -/
theorem v6_at (j : Fin 102400) :
    (at1 m c (Proc.devRef .tc main_v6) : Vec Ideal S1x102400 .f32) (ix2 0 j) = padBot (m ((c.tc : Thread nD τ).loc main_arg3)) j.val := by
  rw [host_v6, padBot_eq]
/-- The query at an entry, as a kernel reads it. -/
theorem v0_at (r : Fin 1024) (k : Fin 128) :
    (at1 m c (Proc.devRef .tc main_v0) : Vec Ideal S1024x128 .bf16) (ix2 r k) = (m ((c.tc : Thread nD τ).loc main_arg0) : FVec Ideal S1024x128 .f32) (ix2 r k) := by
  rw [host_v0]; rfl

/-- A block's scores. -/
theorem block_scores (t : Fin cfg0.N) (r : Fin 1024) (l : Fin 4096) :
    k0_pay4 (iblk (at1 m) c 0 t) (iblk (at1 m) c 1 t) (iblk (at1 m) c 2 t) (ix2 r l) = scoreOf m c r (4096 * t.val + l.val) := by
  rw [pay4_eq, iblk_2, v6_at]
  unfold scoreOf score
  congr 1
  exact Finset.sum_congr rfl fun k _ => by rw [iblk_0, iblk_1, v0_at, v2_at]

variable (ℓ : Fin 1024 → ℕ → ℝ) (hℓ : ∀ r, IsScore (scoreOf m c r) (ℓ r))

include hℓ in
/-- After each point the running maximum is a real number, and the running sum is the sum of the weights, against that
    number, of the lane's scores so far. -/
theorem state (r : Fin 1024) (l : Fin 128) : ∀ (n : ℕ) (h : n < cfg0.N), ∃ μ : ℝ, (stAt (at1 m) c n h).1 (ix2 r l) = (μ : EReal)
    ∧ (stAt (at1 m) c n h).2 (ix2 r l)
      = ((∑ t ∈ Finset.range (n + 1), ∑ k ∈ Finset.range 32, wt (scoreOf m c r (4096 * t + (128 * k + l.val))) μ : ℝ) : EReal) := by
  intro n
  induction n with
  | zero =>
    intro h
    have hX := block_scores m c ⟨0, h⟩ r
    have hne : ∀ k, scoreOf m c r (4096 * 0 + k) ≠ ⊤ := fun k => (hℓ r).ne_top _
    obtain ⟨α, hα⟩ := start_real
    have ha := (pay5_zero h junk (ix2 r l)).trans hα
    obtain ⟨μ, hμ⟩ := maxNext_real _ _ _ _ _ r l (fun k => scoreOf m c r (4096 * 0 + k)) hX hne ⟨α, ha⟩
    refine ⟨μ, hμ, ?_⟩
    unfold stAt
    dsimp only
    rw [sumNext_eq _ _ _ _ _ _ r l (fun k => scoreOf m c r (4096 * 0 + k)) hX hne α 0 μ ha (pay6_zero h junk _) hμ, zero_mul, zero_add,
      Finset.sum_range_one]
  | succ n ih =>
    intro h
    obtain ⟨α, hm, hs⟩ := ih (Nat.lt_of_succ_lt h)
    have hX := block_scores m c ⟨n + 1, h⟩ r
    have hne : ∀ k, scoreOf m c r (4096 * (n + 1) + k) ≠ ⊤ := fun k => (hℓ r).ne_top _
    have ha := (congrFun (pay5_later ⟨n + 1, h⟩ (Nat.succ_ne_zero n) (stAt (at1 m) c n (Nat.lt_of_succ_lt h)).1) (ix2 r l)).trans hm
    have hb := (congrFun (pay6_later ⟨n + 1, h⟩ (Nat.succ_ne_zero n) (stAt (at1 m) c n (Nat.lt_of_succ_lt h)).2) (ix2 r l)).trans hs
    obtain ⟨μ, hμ⟩ := maxNext_real _ _ _ _ _ r l (fun k => scoreOf m c r (4096 * (n + 1) + k)) hX hne ⟨α, ha⟩
    refine ⟨μ, hμ, ?_⟩
    unfold stAt
    dsimp only
    rw [sumNext_eq _ _ _ _ _ _ r l (fun k => scoreOf m c r (4096 * (n + 1) + k)) hX hne α _ μ ha hb hμ, Finset.sum_range_succ _ (n + 1), Finset.sum_mul]
    congr 2
    refine Finset.sum_congr rfl fun t _ => ?_
    rw [Finset.sum_mul]
    exact Finset.sum_congr rfl fun k _ => wt_shift _ _ _

include hℓ in
/-- What the first kernel leaves of a row: a real number `M`, and the inverse of the sum of the exponentials less `M`. -/
theorem row_values (r : Fin 1024) : ∃ M : ℝ, k0_pay2 (F := Ideal) (stAt (at1 m) c 24 (by decide)).1 (ix2 r 0) = (M : EReal)
    ∧ k0_pay3 (F := Ideal) (stAt (at1 m) c 24 (by decide)).1 (stAt (at1 m) c 24 (by decide)).2 (ix2 r 0) = ((1 / (den (ℓ r) * Real.exp (-M)) : ℝ) : EReal) := by
  have h := fun l => state m c ℓ hℓ r l 24 (by decide)
  choose μ hμ hs using h
  obtain ⟨M, hM⟩ := fold_max_real (n := 128) (by norm_num) (fun l => (stAt (at1 m) c 24 (by decide)).1 (ix2 r l)) fun l => ⟨_, hμ l⟩
  refine ⟨M, (pay2_eq _ r).trans hM, ?_⟩
  have e : ∀ l : Fin 128, (stAt (at1 m) c 24 (by decide)).2 (ix2 r l) * Ideal.exp ((stAt (at1 m) c 24 (by decide)).1 (ix2 r l) - (M : EReal))
      = ((∑ t ∈ Finset.range 25, ∑ k ∈ Finset.range 32, wt (scoreOf m c r (4096 * t + (128 * k + l.val))) M : ℝ) : EReal) := fun l => by
    rw [hμ l, hs l, ← EReal.coe_sub, Ideal.exp_coe, ← EReal.coe_mul, Finset.sum_mul]
    congr 1
    refine Finset.sum_congr rfl fun t _ => ?_
    rw [Finset.sum_mul]
    exact Finset.sum_congr rfl fun k _ => wt_shift _ _ _
  rw [pay3_eq, (pay2_eq _ r).trans hM, Finset.sum_congr rfl fun l _ => e l, coe_sum,
    Fin.sum_univ_eq_sum_range (fun l => ∑ t ∈ Finset.range 25, ∑ k ∈ Finset.range 32, wt (scoreOf m c r (4096 * t + (128 * k + l))) M) 128,
    sum_lanes (fun j => wt (scoreOf m c r j) M), sum_wt (hℓ r), Ideal.div_coe (mul_pos (den_pos _) (Real.exp_pos _)).ne', one_mul]

end Cert.KernelIdeal.Stats

end
-- ==== Proof.AttnVal.lean ====
/-
  What the second kernel leaves, over the extended reals: the softmax of the scores, and the memory averaged with it.
-/
module

public import proofs.«01_k».proof.Proof.StatsVal

@[expose] public section

set_option maxRecDepth 16384

noncomputable section

namespace Cert.KernelIdeal.Attn

open Cert.KernelIdeal Cert.KernelIdeal.Gen Cert.Softmax Cert.KernelIdeal.Run
open Cert.KernelIdeal.Stats (scoreOf)
open Idealize.ShloMosaic Idealize.ShloMosaic.TcCoe Idealize.ShloMosaic.Tactic

/-! ## The values of the kernel's terms at an entry -/

section
variable (x0 : Vec Ideal S1024x128 .bf16) (x1 : Vec Ideal S4096x128 .bf16) (x2 : Vec Ideal S1x4096 .f32) (x3 : Vec Ideal S4096x128 .bf16)
  (x4 x5 : Vec Ideal S1024x1 .f32)

theorem pay1_eq (r : Fin 1024) (l : Fin 4096) :
    k1_pay1 x0 x1 x2 x4 (ix2 r l) = Ideal.exp (∑ k : Fin 128, x0 (ix2 r k) * x1 (ix2 l k) + x2 (ix2 0 l) - x4 (ix2 r 0)) := by
  pointwise [k1_pay1]
theorem pay2_eq (r : Fin 1024) (l : Fin 4096) : k1_pay2 x0 x1 x2 x4 x5 (ix2 r l) = k1_pay1 x0 x1 x2 x4 (ix2 r l) * x5 (ix2 r 0) := by
  pointwise [k1_pay2]
theorem pay3_eq (r : Fin 1024) (d : Fin 128) :
    k1_pay3 x0 x1 x2 x4 x3 (ix2 r d) = ∑ l : Fin 4096, k1_pay1 x0 x1 x2 x4 (ix2 r l) * x3 (ix2 l d) := by
  pointwise [k1_pay3]
theorem pay4_eq (y : Vec Ideal S1024x128 .f32) (r : Fin 1024) (d : Fin 128) :
    k1_pay4 x0 x1 x2 x4 x3 y (ix2 r d) = y (ix2 r d) + k1_pay3 x0 x1 x2 x4 x3 (ix2 r d) := by
  pointwise [k1_pay4]
theorem pay5_eq (y : FVec Ideal S1024x128 .f32) (r : Fin 1024) (d : Fin 128) : k1_pay5 y x5 (ix2 r d) = y (ix2 r d) * x5 (ix2 r 0) := by
  pointwise [k1_pay5]
end

/-! ## The arrays when the second kernel begins -/

variable (m : (ℓ : Loc nD τ sig) → Buf (Elt Ideal) ℓ) (c : Dev nD)

/-- A buffer that is no output of the first kernel is as it was. -/
theorem at2_keeps (r : Ref sig .tc) (h : ∀ w, Pipeline.arrRef spec0 w = r → (cfg0.win w).isOut = false) :
    at2 m c (Proc.devRef .tc r) = at1 m c (Proc.devRef .tc r) :=
  Pipeline.afterRegion_keeps (Stats.dat (at1 m) c) (at1 m c) launch0.win.arr_inj (fun w => Stats.A_eq _ c w) r h
theorem at2_v0 : at2 m c (Proc.devRef .tc main_v0) = at1 m c (Proc.devRef .tc main_v0) := at2_keeps m c _ (by decide)
theorem at2_v2 : at2 m c (Proc.devRef .tc main_v2) = at1 m c (Proc.devRef .tc main_v2) := at2_keeps m c _ (by decide)
theorem at2_v4 : at2 m c (Proc.devRef .tc main_v4) = at1 m c (Proc.devRef .tc main_v4) := at2_keeps m c _ (by decide)
theorem at2_v6 : at2 m c (Proc.devRef .tc main_v6) = at1 m c (Proc.devRef .tc main_v6) := at2_keeps m c _ (by decide)
/-- The row maxima are the first kernel's. -/
theorem at2_v7_0 : (at2 m c (Proc.devRef .tc main_v7_0) : Vec Ideal S1024x1 .f32) = k0_pay2 (F := Ideal) (Stats.stAt (at1 m) c 24 (by decide)).1 :=
  (Pipeline.afterRegion_arr (Stats.dat (at1 m) c) (at1 m c) launch0.win.arr_inj 3).trans (Stats.arr_3 (at1 m) c)
/-- The inverses of the row sums are the first kernel's. -/
theorem at2_v7_1 : (at2 m c (Proc.devRef .tc main_v7_1) : Vec Ideal S1024x1 .f32)
    = k0_pay3 (F := Ideal) (Stats.stAt (at1 m) c 24 (by decide)).1 (Stats.stAt (at1 m) c 24 (by decide)).2 :=
  (Pipeline.afterRegion_arr (Stats.dat (at1 m) c) (at1 m c) launch0.win.arr_inj 4).trans (Stats.arr_4 (at1 m) c)

/-! ## A row of the results -/

section
variable (ℓ : ℕ → ℝ) (r : Fin 1024) (hℓ : IsScore (scoreOf m c r) ℓ) (M : ℝ)
  (hM : (at2 m c (Proc.devRef .tc main_v7_0) : Vec Ideal S1024x1 .f32) (ix2 r 0) = (M : EReal))
  (hS : (at2 m c (Proc.devRef .tc main_v7_1) : Vec Ideal S1024x1 .f32) (ix2 r 0) = ((1 / (den ℓ * Real.exp (-M)) : ℝ) : EReal))

include hℓ hM in
/-- A tile's exponentials are the weights of its slots. -/
theorem block_weights (t : Fin cfg1.N) (l : Fin 4096) :
    k1_pay1 (F := Ideal) (iblk (at2 m) c 0 t) (iblk (at2 m) c 1 t) (iblk (at2 m) c 2 t) (iblk (at2 m) c 4 t) (ix2 r l)
      = (wt (scoreOf m c r (4096 * t.val + l.val)) M : EReal) := by
  rw [← exp_sub _ (hℓ.ne_top _), pay1_eq, iblk_2, iblk_4, hM, at2_v6, Stats.v6_at]
  unfold scoreOf score
  congr 3
  exact Finset.sum_congr rfl fun k _ => by rw [iblk_0, iblk_1, at2_v0, at2_v2, Stats.v0_at, Stats.v2_at]

include hℓ hM hS in
/-- A tile holds the softmax at its slots. -/
theorem tile_row (t : Fin cfg1.N) (l : Fin 4096) (hl : 4096 * t.val + l.val < 100000) :
    tileAt (at2 m) c t (ix2 r l) = (prob ℓ (4096 * t.val + l.val) : EReal) := by
  unfold tileAt
  rw [pay2_eq, block_weights m c ℓ r hℓ M hM, iblk_5, hS, ← EReal.coe_mul, wt_mul hℓ M _ hl]

/-- A tile's contribution to an average. -/
def part (d : Fin 128) (t : ℕ) : EReal :=
  ∑ l ∈ Finset.range 4096, (wt (scoreOf m c r (4096 * t + l)) M : EReal) * padRows (m ((c.tc : Thread nD τ).loc main_arg1)) (4096 * t + l) d

include hℓ hM in
theorem block_part (t : Fin cfg1.N) (d : Fin 128) :
    k1_pay3 (F := Ideal) (iblk (at2 m) c 0 t) (iblk (at2 m) c 1 t) (iblk (at2 m) c 2 t) (iblk (at2 m) c 4 t) (iblk (at2 m) c 3 t) (ix2 r d)
      = part m c r M d t.val := by
  unfold part
  rw [pay3_eq, ← Fin.sum_univ_eq_sum_range (fun l => (wt (scoreOf m c r (4096 * t.val + l)) M : EReal) * padRows (m ((c.tc : Thread nD τ).loc main_arg1)) (4096 * t.val + l) d) 4096]
  exact Finset.sum_congr rfl fun l _ => by rw [block_weights m c ℓ r hℓ M hM, iblk_3, at2_v4, Stats.v4_at]

include hℓ hM in
/-- Before the last point the first output holds the contributions so far. -/
theorem ret_before (d : Fin 128) : ∀ (n : ℕ) (h : n < cfg1.N), n < 24 →
    retAt (at2 m) c n h (ix2 r d) = ∑ t ∈ Finset.range (n + 1), part m c r M d t := by
  intro n
  induction n with
  | zero =>
    intro h _
    unfold retAt
    rw [block_part m c ℓ r hℓ M hM ⟨0, h⟩ d, Finset.sum_range_one]
  | succ n ih =>
    intro h hn
    unfold retAt retNext
    rw [if_neg (fun e => by have := (cond1_iff ⟨n + 1, h⟩).mp e; simp at this), if_neg (fun e => by have := (cond3_iff ⟨n + 1, h⟩).mp e; simp at this; omega),
      pay4_eq, ih (Nat.lt_of_succ_lt h) (by omega), block_part m c ℓ r hℓ M hM ⟨n + 1, h⟩ d, Finset.sum_range_succ _ (n + 1)]

include hℓ hM hS in
/-- At the end it holds the memory averaged with the softmax. -/
theorem ret_row (d : Fin 128) : retAt (at2 m) c 24 (by decide) (ix2 r d)
    = ∑ j : Fin 100000, (prob ℓ j.val : EReal) * (m ((c.tc : Thread nD τ).loc main_arg1) : FVec Ideal S100000x128 .f32) (ix2 j d) := by
  have h : 23 + 1 < cfg1.N := by decide
  show retAt (at2 m) c (23 + 1) h (ix2 r d) = _
  unfold retAt retNext
  rw [if_neg (fun e => by have := (cond1_iff ⟨23 + 1, h⟩).mp e; simp at this), if_pos ((cond3_iff ⟨23 + 1, h⟩).mpr rfl),
    pay5_eq, pay4_eq, ret_before m c ℓ r hℓ M hM d 23 (Nat.lt_of_succ_lt h) (by decide), block_part m c ℓ r hℓ M hM ⟨23 + 1, h⟩ d, iblk_5, hS,
    ← Finset.sum_range_succ (part m c r M d) (23 + 1)]
  refine (sum_blocks hℓ M fun j => padRows (m ((c.tc : Thread nD τ).loc main_arg1)) j d).trans ?_
  rw [← Fin.sum_univ_eq_sum_range (fun j => (prob ℓ j : EReal) * padRows (m ((c.tc : Thread nD τ).loc main_arg1)) j d) 100000]
  refine Finset.sum_congr rfl fun j _ => ?_
  unfold padRows
  rw [dif_pos j.isLt]

end

/-! ## The results -/

variable (ℓ : Fin 1024 → ℕ → ℝ) (hℓ : ∀ r, IsScore (scoreOf m c r) (ℓ r))

include hℓ in
/-- The first result: the memory averaged with the softmax. -/
theorem result0 (G : FVec Ideal S1024x128 .f32) (hG : ∀ r d, G (ix2 r d)
      = ∑ j : Fin 100000, (prob (ℓ r) j.val : EReal) * (m ((c.tc : Thread nD τ).loc main_arg1) : FVec Ideal S100000x128 .f32) (ix2 j d)) :
    (at3 m c (Proc.devRef .tc main_v8_0) : FVec Ideal S1024x128 .f32) = G := by
  refine ((Pipeline.afterRegion_arr (Attn.dat (at2 m) c) (at2 m c) launch1.win.arr_inj 6).trans (arr_6 (at2 m) c)).trans ?_
  funext i
  obtain ⟨r, d, rfl⟩ : ∃ (r : Fin 1024) (d : Fin 128), i = ix2 r d := ⟨_, _, eq_ix2 i⟩
  obtain ⟨M, hM, hS⟩ := Stats.row_values m c ℓ hℓ r
  rw [hG]
  exact ret_row m c (ℓ r) r (hℓ _) M ((congrFun (at2_v7_0 m c) _).trans hM) ((congrFun (at2_v7_1 m c) _).trans hS) d

include hℓ in
/-- The second result: the softmax of the scores. -/
theorem result1 (G : FVec Ideal S1024x100000 .f32) (hG : ∀ r j, G (ix2 r j) = (prob (ℓ r) j.val : EReal)) :
    (at3 m c (Proc.devRef .tc main_v8_1) : FVec Ideal S1024x100000 .f32) = G := by
  refine (Pipeline.afterRegion_arr (Attn.dat (at2 m) c) (at2 m c) launch1.win.arr_inj 7).trans (arr_7 (at2 m) c G fun t r l hl => ?_)
  obtain ⟨M, hM, hS⟩ := Stats.row_values m c ℓ hℓ r
  rw [hG]
  exact tile_row m c (ℓ r) r (hℓ _) M ((congrFun (at2_v7_0 m c) _).trans hM) ((congrFun (at2_v7_1 m c) _).trans hS) t l hl

end Cert.KernelIdeal.Attn

end
-- ==== Proof.RefVal.lean ====
/-
  The reference at an entry, over the extended reals: its weights are the softmax of the scores, its averages the
  memory's rows averaged with those weights.
-/
module

public import proofs.«01_k».proof.Proof.Math
public import proofs.«01_k».proof.Proof.Gen.ReferenceIdeal.Run

@[expose] public section

set_option maxRecDepth 16384

noncomputable section

namespace Cert.ReferenceIdeal.Value

open Cert.ReferenceIdeal Cert.ReferenceIdeal.Gen Cert.Softmax
open Idealize.ShloMosaic Idealize.ShloMosaic.TcCoe Idealize.ShloMosaic.Tactic

variable (q : FVec Ideal S1024x128 .f32) (mem w : FVec Ideal S100000x128 .f32) (b : FVec Ideal S100000 .f32)

/-- The reference's scores. -/
def scores : FVec Ideal S1024x100000 .f32 :=
  addf (Host.dotGeneral dot_S1024x128_S128x100000_S1024x100000_1_0_0_1_n_n none q (transpose S128x100000 [1, 0] w transposes_S100000x128_S128x100000_1_0))
    (broadcastInDim S1024x100000 ![0, 1] bcast_S1x100000_S1024x100000_0_1 (broadcastInDim S1x100000 ![1] bcast_S100000_S1x100000_1 b))

/-- The largest score of each row. -/
def top (s : FVec Ideal S1024x100000 .f32) : FVec Ideal S1024 .f32 :=
  maximumf (broadcastInDim S1024 ![] bcast_S_S1024 (constant S_ .f32 0xFF800000#32))
    (Host.reduce FloatOps.maximumf s (constant S_ .f32 0xFF800000#32) reducesTo_S1024x100000_S1024_d1 h_S_)

/-- The exponentials of scores less a number per row. -/
def expo (s : FVec Ideal S1024x100000 .f32) (n : FVec Ideal S1024 .f32) : FVec Ideal S1024x100000 .f32 :=
  Host.exp (subf s (broadcastInDim S1024x100000 ![0, 1] bcast_S1024x1_S1024x100000_0_1 (broadcastInDim S1024x1 ![0] bcast_S1024_S1024x1_0 n)))

/-- Exponentials divided by their sum. -/
def weights (e : FVec Ideal S1024x100000 .f32) : FVec Ideal S1024x100000 .f32 :=
  Host.divf e (broadcastInDim S1024x100000 ![0, 1] bcast_S1024x1_S1024x100000_0_1 (broadcastInDim S1024x1 ![0] bcast_S1024_S1024x1_0
    (Host.reduceAdd e (constant S_ .f32 0x00000000#32) reducesTo_S1024x100000_S1024_d1 h_S_)))

/-- The memory averaged with weights. -/
def average (p : FVec Ideal S1024x100000 .f32) : FVec Ideal S1024x128 .f32 :=
  shapeCast S1024x128 (Host.dotGeneral dot_S1024x1x100000_S100000x128_S1024x1x128_2_0_01_1_n_n none
    (broadcastInDim S1024x1x100000 ![0, 2] bcast_S1024x100000_S1024x1x100000_0_2 p) mem) shapeCasts_S1024x1x128_S1024x128

theorem scores_eq (r : Fin 1024) (j : Fin 100000) :
    scores q w b (ix2 r j) = ∑ k : Fin 128, q (ix2 r k) * w (ix2 j k) + b (ix1 j) := by
  pointwise [scores]
/-- A row's maximum, for any number of rows and columns. -/
theorem row_max {n0 n1 : ℕ} (v : FVec Ideal ⟨2, ![n0, n1]⟩ .f32) (c : FVec Ideal S_ .f32) (h : (⟨2, ![n0, n1]⟩ : Shape).ReducesTo [1] ⟨1, ![n0]⟩)
    (hu : 0 < S_.numel) (r : Fin n0) :
    Host.reduce FloatOps.maximumf v c h hu (ix1 r) = Finset.univ.fold max (c (Shape.Idx.first hu)) fun k : Fin n1 => v (ix2 r k) := by
  pointwise
/-- A row's maximum started from −∞ is real when the row's entries are, for any number of rows and columns. -/
theorem row_max_real {n0 n1 : ℕ} (hn : 0 < n1) (v : FVec Ideal ⟨2, ![n0, n1]⟩ .f32) (c : FVec Ideal S_ .f32)
    (h : (⟨2, ![n0, n1]⟩ : Shape).ReducesTo [1] ⟨1, ![n0]⟩) (hu : 0 < S_.numel) (r : Fin n0) (hc : c (Shape.Idx.first hu) = (⊥ : EReal))
    (hv : ∀ j, ∃ μ : ℝ, v (ix2 r j) = (μ : EReal)) : ∃ μ : ℝ, Host.reduce FloatOps.maximumf v c h hu (ix1 r) = (μ : EReal) := by
  rw [row_max, hc]
  exact fold_max_real hn _ hv
/-- The word of −∞. -/
theorem neg_inf : Ideal.ofBits .f32 0xFF800000#32 = ⊥ := by
  simp [Ideal.ofBits, Ideal.ieee]
/-- The larger of −∞ and an entry is the entry. -/
theorem max_neg_inf (v : FVec Ideal S1024 .f32) (r : Fin 1024) :
    maximumf (broadcastInDim S1024 ![] bcast_S_S1024 (constant S_ .f32 0xFF800000#32)) v (ix1 r) = v (ix1 r) := by
  pointwise
  rw [neg_inf]
  exact max_eq_right bot_le
/-- The largest of a row's scores is real when each of them is. -/
theorem top_real (s : FVec Ideal S1024x100000 .f32) (r : Fin 1024) (h : ∀ j, ∃ μ : ℝ, s (ix2 r j) = (μ : EReal)) :
    ∃ μ : ℝ, top s (ix1 r) = (μ : EReal) := by
  unfold top
  rw [max_neg_inf]
  exact row_max_real (Nat.succ_pos 99999) s _ _ _ r neg_inf h
theorem expo_eq (s : FVec Ideal S1024x100000 .f32) (n : FVec Ideal S1024 .f32) (r : Fin 1024) (j : Fin 100000) :
    expo s n (ix2 r j) = Ideal.exp (s (ix2 r j) - n (ix1 r)) := by
  pointwise [expo]
theorem weights_eq (e : FVec Ideal S1024x100000 .f32) (r : Fin 1024) (j : Fin 100000) :
    weights e (ix2 r j) = Ideal.div (e (ix2 r j)) (∑ k : Fin 100000, e (ix2 r k)) := by
  pointwise [weights]
theorem average_eq (p : FVec Ideal S1024x100000 .f32) (r : Fin 1024) (d : Fin 128) :
    average mem p (ix2 r d) = ∑ k : Fin 100000, p (ix2 r k) * mem (ix2 k d) := by
  pointwise [average]

/-- The reference's weights are the softmax of the scores. -/
theorem probs_eq (s : FVec Ideal S1024x100000 .f32) (ℓ : ℕ → ℝ) (r : Fin 1024) (h : ∀ j : Fin 100000, s (ix2 r j) = (ℓ j.val : EReal)) (j : Fin 100000) :
    weights (expo s (top s)) (ix2 r j) = (prob ℓ j.val : EReal) := by
  obtain ⟨μ, hμ⟩ := top_real s r fun j => ⟨_, h j⟩
  have e : ∀ k : Fin 100000, expo s (top s) (ix2 r k) = ((Real.exp (ℓ k.val - μ) : ℝ) : EReal) := fun k => by
    rw [expo_eq, h, hμ, ← EReal.coe_sub, Ideal.exp_coe]
  rw [weights_eq, e, Finset.sum_congr rfl fun k _ => e k, coe_sum, Fin.sum_univ_eq_sum_range (fun k => Real.exp (ℓ k - μ)) 100000, sum_shift,
    Ideal.div_coe (mul_pos (den_pos ℓ) (Real.exp_pos _)).ne', ← EReal.coe_mul, shift_div]

end Cert.ReferenceIdeal.Value

end
-- ==== Proof.Pre.lean ====
/-
  The precondition: its shape facts, and what it says of the inputs over the extended reals, that every entry of the
  query, of the access table and of the bias is a real number.
-/
module

public import proofs.«01_k».proof.Pre_finite_scores
public import Idealize.ShloMosaic.Lib.Pointwise

@[expose] public section

set_option maxRecDepth 16384

noncomputable section

namespace Cert.Pre_finite_scores

open Idealize.ShloMosaic Idealize.ShloMosaic.TcCoe Idealize.ShloMosaic.Tactic

/-- A fold of conjunctions that comes out true has only true entries. -/
theorem fold_andi {ι : Type} (s : Finset ι) (v : ι → BitVec 1) : s.fold IntOp.andi 1#1 v = 1#1 → ∀ i ∈ s, v i = 1#1 := by
  classical
  have two : ∀ x y : BitVec 1, IntOp.andi x y = 1#1 → x = 1#1 ∧ y = 1#1 := by decide
  induction s using Finset.induction_on with
  | empty => intro _ i hi; simp at hi
  | insert a s ha ih =>
    intro h i hi
    rw [Finset.fold_insert ha] at h
    obtain ⟨h1, h2⟩ := two _ _ h
    rcases Finset.mem_insert.mp hi with rfl | hi
    · exact h1
    · exact ih h2 i hi
/-- A number strictly between the infinities is real. -/
theorem real_of_between (x : EReal) (h : IntOp.andi (FloatOps.cmpf (F := Ideal) (φ := .f32) .ogt x (Ideal.ofBits .f32 0xFF800000#32))
    (FloatOps.cmpf (F := Ideal) (φ := .f32) .olt x (Ideal.ofBits .f32 0x7F800000#32)) = 1#1) : ∃ y : ℝ, x = (y : EReal) := by
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht] at h
  induction x using EReal.rec with
  | bot => exact absurd h (by simp [FloatOps.cmpf, Ideal.cmp, IntOp.andi])
  | top => exact absurd h (by simp [FloatOps.cmpf, Ideal.cmp, IntOp.andi])
  | coe y => exact ⟨y, rfl⟩
/-- A table, of any number of rows and columns, whose entries are all found strictly between the infinities holds real numbers. -/
theorem real_of_finite2 {n0 n1 : ℕ} (x : FVec Ideal ⟨2, ![n0, n1]⟩ .f32) (hb : S_.BroadcastsInDim ⟨2, ![n0, n1]⟩ (![] : Fin 0 → Fin 2))
    (h : (⟨2, ![n0, n1]⟩ : Shape).ReducesTo [0, 1] S_) (hu : 0 < S_.numel) (j : S_.Idx)
    (e : Host.reduce IntOp.andi (andi (cmpf .ogt x (broadcastInDim ⟨2, ![n0, n1]⟩ ![] hb (constant S_ .f32 0xFF800000#32)))
      (cmpf .olt x (broadcastInDim ⟨2, ![n0, n1]⟩ ![] hb (constant S_ .f32 0x7F800000#32)))) (constantI S_ 1 1#1) h hu j = 1#1) :
    ∀ i, ∃ y : ℝ, x i = (y : EReal) := by
  intro i
  rw [Host.reduce_eq_fold, h.fold_fiber_r2_a01] at e
  rw [eq_ix2 i]
  exact real_of_between _ (fold_andi _ _ e (i 0, i 1) (Finset.mem_univ _))
/-- The same of a list of any length. -/
theorem real_of_finite1 {n0 : ℕ} (x : FVec Ideal ⟨1, ![n0]⟩ .f32) (hb : S_.BroadcastsInDim ⟨1, ![n0]⟩ (![] : Fin 0 → Fin 1))
    (h : (⟨1, ![n0]⟩ : Shape).ReducesTo [0] S_) (hu : 0 < S_.numel) (j : S_.Idx)
    (e : Host.reduce IntOp.andi (andi (cmpf .ogt x (broadcastInDim ⟨1, ![n0]⟩ ![] hb (constant S_ .f32 0xFF800000#32)))
      (cmpf .olt x (broadcastInDim ⟨1, ![n0]⟩ ![] hb (constant S_ .f32 0x7F800000#32)))) (constantI S_ 1 1#1) h hu j = 1#1) :
    ∀ i, ∃ y : ℝ, x i = (y : EReal) := by
  intro i
  rw [Host.reduce_eq_fold, h.fold_fiber_r1_a0] at e
  rw [eq_ix1 i]
  exact real_of_between _ (fold_andi _ _ e (i 0) (Finset.mem_univ _))

/-- The shape facts of the precondition's operations. -/
theorem facts : Facts where
  bcast_S_S1024x128 := by decide
  reducesTo_S1024x128_S_d0_1 := by decide
  h_S_ := by decide
  bcast_S_S100000x128 := by decide
  reducesTo_S100000x128_S_d0_1 := by decide
  bcast_S_S100000 := by decide
  reducesTo_S100000_S_d0 := by decide

section
variable [Facts] (a0 : FVec Ideal S1024x128 .f32) (a1 a2 : FVec Ideal S100000x128 .f32) (a3 : FVec Ideal S100000 .f32)
  (h : fn (F := Ideal) a0 a1 a2 a3 = fun _ => 1#1)

include h in
/-- Under the precondition the query, the access table and the bias hold real numbers. -/
theorem real_inputs : (∀ i, ∃ y : ℝ, a0 i = (y : EReal)) ∧ (∀ i, ∃ y : ℝ, a2 i = (y : EReal)) ∧ ∀ i, ∃ y : ℝ, a3 i = (y : EReal) := by
  have two : ∀ x y : BitVec 1, IntOp.andi x y = 1#1 → x = 1#1 ∧ y = 1#1 := by decide
  have e := congrFun h (Shape.Idx.first Facts.h_S_)
  unfold fn fn_part1 at e
  obtain ⟨e1, e3⟩ := two _ _ e
  obtain ⟨e1, e2⟩ := two _ _ e1
  exact ⟨real_of_finite2 a0 _ _ _ _ e1, real_of_finite2 a2 _ _ _ _ e2, real_of_finite1 a3 _ _ _ _ e3⟩
end

end Cert.Pre_finite_scores

end
-- ==== Proof.Algebraic.lean ====
/-
  The kernel and the reference compute the same two results over the extended reals.
-/
module

public import proofs.«01_k».proof.Defs
public import proofs.«01_k».proof.Proof.AttnVal
public import proofs.«01_k».proof.Proof.RefVal
public import proofs.«01_k».proof.Proof.Pre
public import proofs.«01_k».proof.Proof.Gen.ReferenceIdeal.Run

@[expose] public section

set_option maxRecDepth 16384

noncomputable section

namespace Cert.Algebraic

open Idealize.ShloMosaic Idealize.ShloMosaic.TcCoe Idealize.ShloMosaic.Tactic Idealize.SL.Sem
open Cert.Softmax
open Cert.KernelIdeal.Stats (scoreOf)

section
variable (m : (ℓ : Loc Cert.KernelIdeal.nD Cert.KernelIdeal.τ Cert.KernelIdeal.sig) → Buf (Elt Ideal) ℓ) (c : Dev Cert.KernelIdeal.nD)

/-- The query, the memory, the access table and the bias the kernel is launched with. -/
abbrev query : FVec Ideal Cert.KernelIdeal.S1024x128 .f32 := m ((c.tc : Thread Cert.KernelIdeal.nD Cert.KernelIdeal.τ).loc Cert.KernelIdeal.main_arg0)
@[inherit_doc query] abbrev memory : FVec Ideal Cert.KernelIdeal.S100000x128 .f32 := m ((c.tc : Thread Cert.KernelIdeal.nD Cert.KernelIdeal.τ).loc Cert.KernelIdeal.main_arg1)
@[inherit_doc query] abbrev access : FVec Ideal Cert.KernelIdeal.S100000x128 .f32 := m ((c.tc : Thread Cert.KernelIdeal.nD Cert.KernelIdeal.τ).loc Cert.KernelIdeal.main_arg2)
@[inherit_doc query] abbrev bias : FVec Ideal Cert.KernelIdeal.S100000 .f32 := m ((c.tc : Thread Cert.KernelIdeal.nD Cert.KernelIdeal.τ).loc Cert.KernelIdeal.main_arg3)

variable [Cert.Pre_finite_scores.Facts]

/-- The reference's softmax of the kernel's arguments. -/
def softmax : FVec Ideal Cert.ReferenceIdeal.S1024x100000 .f32 :=
  Cert.ReferenceIdeal.Value.weights (Cert.ReferenceIdeal.Value.expo (Cert.ReferenceIdeal.Value.scores (query m c) (access m c) (bias m c))
    (Cert.ReferenceIdeal.Value.top (Cert.ReferenceIdeal.Value.scores (query m c) (access m c) (bias m c))))

variable (h : Cert.Pre_KernelIdeal_finite_scores m)

include h in
/-- The kernel's padded scores are real on the slots and −∞ past them. -/
theorem isScore (r : Fin 1024) : IsScore (scoreOf m c r) fun j => (scoreOf m c r j).toReal :=
  have ⟨hq, hw, hb⟩ := Cert.Pre_finite_scores.real_inputs (query m c) (memory m c) (access m c) (bias m c) (h c)
  Cert.KernelIdeal.Run.isScore (query m c) (access m c) (bias m c) hq hw hb r

include h in
/-- The reference's softmax, entry by entry. -/
theorem softmax_eq (r : Fin 1024) (j : Fin 100000) : softmax m c (ix2 r j) = (prob (fun j => (scoreOf m c r j).toReal) j.val : EReal) := by
  refine Cert.ReferenceIdeal.Value.probs_eq _ _ r (fun k => ?_) j
  rw [Cert.ReferenceIdeal.Value.scores_eq, ← (isScore m c h r).real k.val k.isLt]
  exact (Cert.KernelIdeal.Run.score_of_lt (query m c) (access m c) (bias m c) r k.val k.isLt).symm

include h in
/-- The kernel's second result is the reference's softmax. -/
theorem attention : (Cert.KernelIdeal.Run.at3 m c (Proc.devRef .tc Cert.KernelIdeal.main_v8_1) : FVec Ideal Cert.KernelIdeal.S1024x100000 .f32) = softmax m c :=
  Cert.KernelIdeal.Attn.result1 m c _ (isScore m c h) _ (softmax_eq m c h)

include h in
/-- The kernel's first result is the reference's average of the memory. -/
theorem retrieved : (Cert.KernelIdeal.Run.at3 m c (Proc.devRef .tc Cert.KernelIdeal.main_v8_0) : FVec Ideal Cert.KernelIdeal.S1024x128 .f32)
    = Cert.ReferenceIdeal.Value.average (memory m c) (softmax m c) :=
  Cert.KernelIdeal.Attn.result0 m c _ (isScore m c h) _ fun r d => by
    rw [Cert.ReferenceIdeal.Value.average_eq]
    exact Finset.sum_congr rfl fun j _ => by rw [softmax_eq m c h]
end

/-- The reference's run: it ends with the average and the softmax of its own arguments. -/
theorem reference_run (m' : (ℓ : Loc Cert.ReferenceIdeal.nD Cert.ReferenceIdeal.τ Cert.ReferenceIdeal.sig) → Buf (Elt Ideal) ℓ)
    (g' : Dev Cert.ReferenceIdeal.nD → PrngReg) : θ_run (Cert.ReferenceIdeal.defs (F := Ideal)) (onTc (τ := Cert.ReferenceIdeal.τ) (Cert.ReferenceIdeal.main (F := Ideal)))
    ⟨m', fun _ => 0, g'⟩ (fun r => ∀ c : Dev Cert.ReferenceIdeal.nD, ∀ (q : FVec Ideal Cert.ReferenceIdeal.S1024x128 .f32)
      (mem w : FVec Ideal Cert.ReferenceIdeal.S100000x128 .f32) (b : FVec Ideal Cert.ReferenceIdeal.S100000 .f32),
      m' ((c.tc : Thread Cert.ReferenceIdeal.nD Cert.ReferenceIdeal.τ).loc Cert.ReferenceIdeal.main_arg0) = q →
      m' ((c.tc : Thread Cert.ReferenceIdeal.nD Cert.ReferenceIdeal.τ).loc Cert.ReferenceIdeal.main_arg1) = mem →
      m' ((c.tc : Thread Cert.ReferenceIdeal.nD Cert.ReferenceIdeal.τ).loc Cert.ReferenceIdeal.main_arg2) = w →
      m' ((c.tc : Thread Cert.ReferenceIdeal.nD Cert.ReferenceIdeal.τ).loc Cert.ReferenceIdeal.main_arg3) = b →
      r.2.mem ((c.tc : Thread Cert.ReferenceIdeal.nD Cert.ReferenceIdeal.τ).loc Cert.ReferenceIdeal.main_v18)
        = Cert.ReferenceIdeal.Value.average mem (Cert.ReferenceIdeal.Value.weights (Cert.ReferenceIdeal.Value.expo (Cert.ReferenceIdeal.Value.scores q w b) (Cert.ReferenceIdeal.Value.top (Cert.ReferenceIdeal.Value.scores q w b))))
      ∧ r.2.mem ((c.tc : Thread Cert.ReferenceIdeal.nD Cert.ReferenceIdeal.τ).loc Cert.ReferenceIdeal.main_v15)
        = Cert.ReferenceIdeal.Value.weights (Cert.ReferenceIdeal.Value.expo (Cert.ReferenceIdeal.Value.scores q w b) (Cert.ReferenceIdeal.Value.top (Cert.ReferenceIdeal.Value.scores q w b)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run (Cert.ReferenceIdeal.defs (F := Ideal)) _ _).mono (fun r h c q mem w b e0 e1 e2 e3 => by
    subst e0 e1 e2 e3
    exact h c) (Cert.ReferenceIdeal.Value.run m' g')

/-- The value claim: both programs run, and end with the same two results. -/
theorem claim : Cert.algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  intro m g m' g' h e
  refine ⟨fun c => Cert.KernelIdeal.Run.at3 m c (Proc.devRef .tc Cert.KernelIdeal.main_v8_0),
    fun c => Cert.KernelIdeal.Run.at3 m c (Proc.devRef .tc Cert.KernelIdeal.main_v8_1), ?_, ?_⟩
  · exact (θ_run (Cert.KernelIdeal.defs (F := Ideal)) _ _).mono (fun _ k c => ⟨(k.1 c).2.1, (k.1 c).2.2, (k.1 c).1⟩) (Cert.KernelIdeal.Run.run m g)
  · refine (θ_run (Cert.ReferenceIdeal.defs (F := Ideal)) _ _).mono (fun _ k c => ?_) (reference_run m' g')
    obtain ⟨e0, e1, e2, e3⟩ := e c
    obtain ⟨k0, k1, k2⟩ := k c _ _ _ _ e0 e1 e2 e3
    exact ⟨k0.trans (@retrieved m c Cert.Pre_finite_scores.facts h).symm,
      k1.trans (@attention m c Cert.Pre_finite_scores.facts h).symm, k2⟩

end Cert.Algebraic

end
-- ==== Proof.lean ====
/-
  The certificate's claim: the frames of the three programs, and that kernel and reference compute the same results.
-/
module

public import proofs.«01_k».proof.Defs
public import proofs.«01_k».proof.Proof.Frames
public import proofs.«01_k».proof.Proof.Algebraic

@[expose] public section

noncomputable section

namespace Cert.Proof

open Idealize.ShloMosaic Idealize.SL.Sem

/-- All that is claimed of the kernel. -/
theorem claim : Cert.Claim := ⟨Cert.Kernel.Gen.facts, Cert.KernelIdeal.Gen.facts, Cert.ReferenceIdeal.Gen.facts, Cert.Pre_finite_scores.facts,
  Cert.Frames.kernel, Cert.Frames.kernelIdeal, fun m g _ => Cert.Frames.kernelIdeal m g trivial,
  Cert.Frames.referenceIdeal, fun m g _ => Cert.Frames.referenceIdeal m g trivial, trivial, Cert.Algebraic.claim⟩

end Cert.Proof

end
